-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v9) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v7) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v27) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v41) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_gates_finite : Cert.Pre_gates_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_gates_finite.lean ====
abbrev S8x4x3072 : Shape := ⟨3, ![8, 4, 3072]⟩
abbrev S3072 : Shape := ⟨1, ![3072]⟩
abbrev S8x24x128x128 : Shape := ⟨4, ![8, 24, 128, 128]⟩
abbrev S_ : Shape := ⟨0, ![]⟩

class Facts : Prop where
  bcast_S_S8x4x3072 : S_.BroadcastsInDim S8x4x3072 (![] : Fin 0 → Fin S8x4x3072.rank)
  reducesTo_S8x4x3072_S_d0_1_2 : S8x4x3072.ReducesTo [0, 1, 2] S_
  h_S_ : 0 < S_.numel
  bcast_S_S8x24x128x128 : S_.BroadcastsInDim S8x24x128x128 (![] : Fin 0 → Fin S8x24x128x128.rank)
  reducesTo_S8x24x128x128_S_d0_1_2_3 : S8x24x128x128.ReducesTo [0, 1, 2, 3] S_

variable [Facts]

def fn_part1 {F : FTy → Type} [FloatOps F] (main_arg5 : FVec F S8x24x128x128 .f32) (main_v11 : IVec S_ 1) (main_v15 : IVec S_ 1) : IVec S_ 1 :=
  let main_v16 : IVec S_ 1 := andi main_v11 main_v15
  let main_v17 : FVec F S8x24x128x128 .f32 := Host.absf main_arg5
  let main_cst_6 : FVec F S_ .f32 := constant S_ .f32 0x7F800000#32
  let main_v18 : FVec F S8x24x128x128 .f32 := broadcastInDim S8x24x128x128 ![] bcast_S_S8x24x128x128 main_cst_6
  let main_v19 : IVec S8x24x128x128 1 := cmpf .olt main_v17 main_v18
  let main_c_7 : IVec S_ 1 := constantI S_ 1 1#1
  let main_v20 : IVec S_ 1 := (fun x v => Host.reduce IntOp.andi x v reducesTo_S8x24x128x128_S_d0_1_2_3 h_S_) main_v19 main_c_7
  let main_v21 : IVec S_ 1 := andi main_v16 main_v20
  main_v21

def fn {F : FTy → Type} [FloatOps F] (main_arg0 : FVec F S8x4x3072 .f32) (main_arg1 : FVec F S8x4x3072 .f32) (main_arg2 : FVec F S8x4x3072 .f32) (main_arg3 : FVec F S8x4x3072 .f32) (main_arg4 : FVec F S3072 .f32) (main_arg5 : FVec F S8x24x128x128 .f32) : IVec S_ 1 :=
  let main_v0 : FVec F S8x4x3072 .f32 := Host.absf main_arg0
  let main_cst : FVec F S_ .f32 := constant S_ .f32 0x7F800000#32
  let main_v1 : FVec F S8x4x3072 .f32 := broadcastInDim S8x4x3072 ![] bcast_S_S8x4x3072 main_cst
  let main_v2 : IVec S8x4x3072 1 := cmpf .olt main_v0 main_v1
  let main_c : IVec S_ 1 := constantI S_ 1 1#1
  let main_v3 : IVec S_ 1 := (fun x v => Host.reduce IntOp.andi x v reducesTo_S8x4x3072_S_d0_1_2 h_S_) main_v2 main_c
  let main_cst_0 : FVec F S_ .f32 := constant S_ .f32 0x00000000#32
  let main_v4 : FVec F S8x4x3072 .f32 := broadcastInDim S8x4x3072 ![] bcast_S_S8x4x3072 main_cst_0
  let main_v5 : IVec S8x4x3072 1 := cmpf .ogt main_arg1 main_v4
  let main_c_1 : IVec S_ 1 := constantI S_ 1 1#1
  let main_v6 : IVec S_ 1 := (fun x v => Host.reduce IntOp.andi x v reducesTo_S8x4x3072_S_d0_1_2 h_S_) main_v5 main_c_1
  let main_v7 : IVec S_ 1 := andi main_v3 main_v6
  let main_cst_2 : FVec F S_ .f32 := constant S_ .f32 0x7F800000#32
  let main_v8 : FVec F S8x4x3072 .f32 := broadcastInDim S8x4x3072 ![] bcast_S_S8x4x3072 main_cst_2
  let main_v9 : IVec S8x4x3072 1 := cmpf .olt main_arg1 main_v8
  let main_c_3 : IVec S_ 1 := constantI S_ 1 1#1
  let main_v10 : IVec S_ 1 := (fun x v => Host.reduce IntOp.andi x v reducesTo_S8x4x3072_S_d0_1_2 h_S_) main_v9 main_c_3
  let main_v11 : IVec S_ 1 := andi main_v7 main_v10
  let main_v12 : FVec F S8x4x3072 .f32 := Host.absf main_arg2
  let main_cst_4 : FVec F S_ .f32 := constant S_ .f32 0x7F800000#32
  let main_v13 : FVec F S8x4x3072 .f32 := broadcastInDim S8x4x3072 ![] bcast_S_S8x4x3072 main_cst_4
  let main_v14 : IVec S8x4x3072 1 := cmpf .olt main_v12 main_v13
  let main_c_5 : IVec S_ 1 := constantI S_ 1 1#1
  let main_v15 : IVec S_ 1 := (fun x v => Host.reduce IntOp.andi x v reducesTo_S8x4x3072_S_d0_1_2 h_S_) main_v14 main_c_5
  fn_part1 (F := F) main_arg5 main_v11 main_v15
-- ==== Kernel.lean ====
abbrev S8x4x3072 : Shape := ⟨3, ![8, 4, 3072]⟩
abbrev S3072 : Shape := ⟨1, ![3072]⟩
abbrev S8x24x128x128 : Shape := ⟨4, ![8, 24, 128, 128]⟩
abbrev S_ : Shape := ⟨0, ![]⟩
abbrev S8x8x3072 : Shape := ⟨3, ![8, 8, 3072]⟩
abbrev S1x3072 : Shape := ⟨2, ![1, 3072]⟩
abbrev S1x8x768 : Shape := ⟨3, ![1, 8, 768]⟩
abbrev S1x768 : Shape := ⟨2, ![1, 768]⟩
abbrev S1x6x128x128 : Shape := ⟨4, ![1, 6, 128, 128]⟩
abbrev S6x128x128 : Shape := ⟨3, ![6, 128, 128]⟩
abbrev S8x768 : Shape := ⟨2, ![8, 768]⟩
abbrev S1x1x128x128 : Shape := ⟨4, ![1, 1, 128, 128]⟩
abbrev S128x128 : Shape := ⟨2, ![128, 128]⟩
abbrev S1x128x128 : Shape := ⟨3, ![1, 128, 128]⟩
abbrev S1x1x768 : Shape := ⟨3, ![1, 1, 768]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S1x8x128 : Shape := ⟨3, ![1, 8, 128]⟩

abbrev nBuf : Space → Nat
  | .hbm => 21
  | .vmem => 19
  | .smem => 0
  | _ => 0

abbrev bufTy : (tb : Table) → Fin (tcTables nBuf tb) → BufTy
  | .hbm, ⟨0, _⟩ => ⟨S8x4x3072, .f32⟩
  | .hbm, ⟨1, _⟩ => ⟨S8x4x3072, .f32⟩
  | .hbm, ⟨2, _⟩ => ⟨S8x4x3072, .f32⟩
  | .hbm, ⟨3, _⟩ => ⟨S8x4x3072, .f32⟩
  | .hbm, ⟨4, _⟩ => ⟨S3072, .f32⟩
  | .hbm, ⟨5, _⟩ => ⟨S8x24x128x128, .f32⟩
  | .hbm, ⟨6, _⟩ => ⟨S_, .i32⟩
  | .hbm, ⟨7, _⟩ => ⟨S_, .f32⟩
  | .hbm, ⟨8, _⟩ => ⟨S8x8x3072, .f32⟩
  | .hbm, ⟨9, _⟩ => ⟨S_, .i32⟩
  | .hbm, ⟨10, _⟩ => ⟨S_, .f32⟩
  | .hbm, ⟨11, _⟩ => ⟨S8x8x3072, .f32⟩
  | .hbm, ⟨12, _⟩ => ⟨S_, .i32⟩
  | .hbm, ⟨13, _⟩ => ⟨S_, .f32⟩
  | .hbm, ⟨14, _⟩ => ⟨S8x8x3072, .f32⟩
  | .hbm, ⟨15, _⟩ => ⟨S_, .i32⟩
  | .hbm, ⟨16, _⟩ => ⟨S_, .f32⟩
  | .hbm, ⟨17, _⟩ => ⟨S8x8x3072, .f32⟩
  | .hbm, ⟨18, _⟩ => ⟨S1x3072, .f32⟩
  | .hbm, ⟨19, _⟩ => ⟨S8x8x3072, .bf16⟩
  | .hbm, ⟨20, _⟩ => ⟨S8x24x128x128, .f32⟩
  | .local _ .vmem, ⟨0, _⟩ => ⟨S1x8x768, .f32⟩
  | .local _ .vmem, ⟨1, _⟩ => ⟨S1x8x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x8x768, .f32⟩
  | .local _ .vmem, ⟨7, _⟩ => ⟨S1x8x768, .f32⟩
  | .local _ .vmem, ⟨8, _⟩ => ⟨S1x768, .f32⟩
  | .local _ .vmem, ⟨9, _⟩ => ⟨S1x768, .f32⟩
  | .local _ .vmem, ⟨10, _⟩ => ⟨S1x6x128x128, .f32⟩
  | .local _ .vmem, ⟨11, _⟩ => ⟨S1x6x128x128, .f32⟩
  | .local _ .vmem, ⟨12, _⟩ => ⟨S1x8x768, .bf16⟩
  | .local _ .vmem, ⟨13, _⟩ => ⟨S1x8x768, .bf16⟩
  | .local _ .vmem, ⟨14, _⟩ => ⟨S1x6x128x128, .f32⟩
  | .local _ .vmem, ⟨15, _⟩ => ⟨S1x6x128x128, .f32⟩
  | .local _ .vmem, ⟨16, _⟩ => ⟨S6x128x128, .f32⟩
  | .local _ .vmem, ⟨17, _⟩ => ⟨S8x768, .f32⟩
  | .local _ .vmem, ⟨18, _⟩ => ⟨S8x768, .f32⟩
  | _, _ => ⟨S8x4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_c_2 : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_238 : BitVec 32 := 0#32
  let v745 : BitVec 1 := Scalar.cmpi .eq arg2 c0_i32_238
  let v746 : BitVec 32 := Scalar.extui v745
  let c0_i32_239 : BitVec 32 := 0#32
  let v747 : BitVec 1 := Scalar.cmpi .ne v746 c0_i32_239
  v747

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x6x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8x4x3072 : Shape := ⟨3, ![8, 4, 3072]⟩
abbrev S3072 : Shape := ⟨1, ![3072]⟩
abbrev S8x24x128x128 : Shape := ⟨4, ![8, 24, 128, 128]⟩
abbrev S8x4x24x128 : Shape := ⟨4, ![8, 4, 24, 128]⟩
abbrev S8x24x4x128 : Shape := ⟨4, ![8, 24, 4, 128]⟩
abbrev S_ : Shape := ⟨0, ![]⟩
abbrev S4x4 : Shape := ⟨2, ![4, 4]⟩
abbrev S4x4x1 : Shape := ⟨3, ![4, 4, 1]⟩
abbrev S8x24x4x1x128 : Shape := ⟨5, ![8, 24, 4, 1, 128]⟩
abbrev S8x24x1x4x128 : Shape := ⟨5, ![8, 24, 1, 4, 128]⟩
abbrev S8x24x4x4x128 : Shape := ⟨5, ![8, 24, 4, 4, 128]⟩
abbrev S8x24x4x4 : Shape := ⟨4, ![8, 24, 4, 4]⟩
abbrev S8x24x1x128 : Shape := ⟨4, ![8, 24, 1, 128]⟩
abbrev S8x24x128 : Shape := ⟨3, ![8, 24, 128]⟩
abbrev S8x24x128x1 : Shape := ⟨4, ![8, 24, 128, 1]⟩
abbrev S8x4x24 : Shape := ⟨3, ![8, 4, 24]⟩
abbrev S8x4x24x1 : Shape := ⟨4, ![8, 4, 24, 1]⟩
abbrev S24x128 : Shape := ⟨2, ![24, 128]⟩
abbrev S1x1x24x128 : Shape := ⟨4, ![1, 1, 24, 128]⟩
abbrev S8x8x3072 : Shape := ⟨3, ![8, 8, 3072]⟩

abbrev nBuf : Space → Nat
  | .hbm => 94
  | .vmem => 0
  | .smem => 0
  | _ => 0

abbrev bufTy : (tb : Table) → Fin (tcTables nBuf tb) → BufTy
  | .hbm, ⟨0, _⟩ => ⟨S8x4x3072, .f32⟩
  | .hbm, ⟨1, _⟩ => ⟨S8x4x3072, .f32⟩
  | .hbm, ⟨2, _⟩ => ⟨S8x4x3072, .f32⟩
  | .hbm, ⟨3, _⟩ => ⟨S8x4x3072, .f32⟩
  | .hbm, ⟨4, _⟩ => ⟨S3072, .f32⟩
  | .hbm, ⟨5, _⟩ => ⟨S8x24x128x128, .f32⟩
  | .hbm, ⟨6, _⟩ => ⟨S8x4x24x128, .f32⟩
  | .hbm, ⟨7, _⟩ => ⟨S8x24x4x128, .f32⟩
  | .hbm, ⟨8, _⟩ => ⟨S_, .f32⟩
  | .hbm, ⟨9, _⟩ => ⟨S8x4x3072, .f32⟩
  | .hbm, ⟨10, _⟩ => ⟨S8x4x3072, .f32⟩
  | .hbm, ⟨11, _⟩ => ⟨S8x4x24x128, .f32⟩
  | .hbm, ⟨12, _⟩ => ⟨S8x24x4x128, .f32⟩
  | .hbm, ⟨13, _⟩ => ⟨S8x4x24x128, .f32⟩
  | .hbm, ⟨14, _⟩ => ⟨S8x24x4x128, .f32⟩
  | .hbm, ⟨15, _⟩ => ⟨S8x4x3072, .f32⟩
  | .hbm, ⟨16, _⟩ => ⟨S8x4x24x128, .f32⟩
  | .hbm, ⟨17, _⟩ => ⟨S8x24x4x128, .f32⟩
  | .hbm, ⟨18, _⟩ => ⟨S_, .i1⟩
  | .hbm, ⟨19, _⟩ => ⟨S4x4, .i1⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S_, .i1⟩
  | .hbm, ⟨27, _⟩ => ⟨S4x4, .i1⟩
  | .hbm, ⟨28, _⟩ => ⟨S4x4, .i1⟩
  | .hbm, ⟨29, _⟩ => ⟨S4x4x1, .i1⟩
  | .hbm, ⟨30, _⟩ => ⟨S_, .f32⟩
  | .hbm, ⟨31, _⟩ => ⟨S_, .f32⟩
  | .hbm, ⟨32, _⟩ => ⟨S8x24x4x128, .f32⟩
  | .hbm, ⟨33, _⟩ => ⟨S8x24x4x128, .f32⟩
  | .hbm, ⟨34, _⟩ => ⟨S8x24x4x128, .f32⟩
  | .hbm, ⟨35, _⟩ => ⟨S8x24x4x128, .f32⟩
  | .hbm, ⟨36, _⟩ => ⟨S8x24x4x1x128, .f32⟩
  | .hbm, ⟨37, _⟩ => ⟨S8x24x1x4x128, .f32⟩
  | .hbm, ⟨38, _⟩ => ⟨S8x24x4x4x128, .f32⟩
  | .hbm, ⟨39, _⟩ => ⟨S8x24x4x4x128, .f32⟩
  | .hbm, ⟨40, _⟩ => ⟨S8x24x4x4x128, .f32⟩
  | .hbm, ⟨41, _⟩ => ⟨S_, .f32⟩
  | .hbm, ⟨42, _⟩ => ⟨S_, .f32⟩
  | .hbm, ⟨43, _⟩ => ⟨S8x24x4x4x128, .i1⟩
  | .hbm, ⟨44, _⟩ => ⟨S8x24x4x4x128, .f32⟩
  | .hbm, ⟨45, _⟩ => ⟨S8x24x4x4x128, .f32⟩
  | .hbm, ⟨46, _⟩ => ⟨S8x24x4x4x128, .f32⟩
  | .hbm, ⟨47, _⟩ => ⟨S8x24x4x1x128, .f32⟩
  | .hbm, ⟨48, _⟩ => ⟨S8x24x1x4x128, .f32⟩
  | .hbm, ⟨49, _⟩ => ⟨S8x24x4x4x128, .f32⟩
  | .hbm, ⟨50, _⟩ => ⟨S8x24x4x4x128, .f32⟩
  | .hbm, ⟨51, _⟩ => ⟨S8x24x4x4x128, .f32⟩
  | .hbm, ⟨52, _⟩ => ⟨S8x24x4x4x128, .f32⟩
  | .hbm, ⟨53, _⟩ => ⟨S_, .f32⟩
  | .hbm, ⟨54, _⟩ => ⟨S8x24x4x4, .f32⟩
  | .hbm, ⟨55, _⟩ => ⟨S8x24x4x128, .f32⟩
  | .hbm, ⟨56, _⟩ => ⟨S8x24x1x128, .f32⟩
  | .hbm, ⟨57, _⟩ => ⟨S8x24x128, .f32⟩
  | .hbm, ⟨58, _⟩ => ⟨S8x24x128, .f32⟩
  | .hbm, ⟨59, _⟩ => ⟨S8x24x128x1, .f32⟩
  | .hbm, ⟨60, _⟩ => ⟨S8x24x128x128, .f32⟩
  | .hbm, ⟨61, _⟩ => ⟨S8x24x128x128, .f32⟩
  | .hbm, ⟨62, _⟩ => ⟨S8x24x1x128, .f32⟩
  | .hbm, ⟨63, _⟩ => ⟨S8x24x4x128, .f32⟩
  | .hbm, ⟨64, _⟩ => ⟨S8x24x4x128, .f32⟩
  | .hbm, ⟨65, _⟩ => ⟨S8x24x4x128, .f32⟩
  | .hbm, ⟨66, _⟩ => ⟨S8x24x4x128, .f32⟩
  | .hbm, ⟨67, _⟩ => ⟨S8x24x128x128, .f32⟩
  | .hbm, ⟨68, _⟩ => ⟨S8x24x128x128, .f32⟩
  | .hbm, ⟨69, _⟩ => ⟨S8x24x4x128, .f32⟩
  | .hbm, ⟨70, _⟩ => ⟨S8x4x24x128, .f32⟩
  | .hbm, ⟨71, _⟩ => ⟨S8x4x24x128, .f32⟩
  | .hbm, ⟨72, _⟩ => ⟨S_, .f32⟩
  | .hbm, ⟨73, _⟩ => ⟨S8x4x24, .f32⟩
  | .hbm, ⟨74, _⟩ => ⟨S8x4x24x1, .f32⟩
  | .hbm, ⟨75, _⟩ => ⟨S_, .f32⟩
  | .hbm, ⟨76, _⟩ => ⟨S8x4x24x1, .f32⟩
  | .hbm, ⟨77, _⟩ => ⟨S8x4x24x1, .f32⟩
  | .hbm, ⟨78, _⟩ => ⟨S_, .f32⟩
  | .hbm, ⟨79, _⟩ => ⟨S8x4x24x1, .f32⟩
  | .hbm, ⟨80, _⟩ => ⟨S8x4x24x1, .f32⟩
  | .hbm, ⟨81, _⟩ => ⟨S8x4x24x1, .f32⟩
  | .hbm, ⟨82, _⟩ => ⟨S8x4x24x128, .f32⟩
  | .hbm, ⟨83, _⟩ => ⟨S8x4x24x128, .f32⟩
  | .hbm, ⟨84, _⟩ => ⟨S24x128, .f32⟩
  | .hbm, ⟨85, _⟩ => ⟨S1x1x24x128, .f32⟩
  | .hbm, ⟨86, _⟩ => ⟨S8x4x24x128, .f32⟩
  | .hbm, ⟨87, _⟩ => ⟨S8x4x24x128, .f32⟩
  | .hbm, ⟨88, _⟩ => ⟨S8x4x3072, .f32⟩
  | .hbm, ⟨89, _⟩ => ⟨S8x4x3072, .f32⟩
  | .hbm, ⟨90, _⟩ => ⟨S8x4x3072, .bf16⟩
  | .hbm, ⟨91, _⟩ => ⟨S_, .i32⟩
  | .hbm, ⟨92, _⟩ => ⟨S_, .bf16⟩
  | .hbm, ⟨93, _⟩ => ⟨S8x8x3072, .bf16⟩
  | _, _ => ⟨S8x4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_call1_call0_cst : Ref sig .tc := ⟨.hbm, 30, rfl⟩
abbrev main_call1_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_2 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_5 : Ref sig .tc := ⟨.hbm, 91, rfl⟩
abbrev main_call3_v0 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel2.lean ====
abbrev S8192x4096 : Shape := ⟨2, ![8192, 4096]⟩
abbrev S64x4096 : Shape := ⟨2, ![64, 4096]⟩
abbrev S1x4096x16384 : Shape := ⟨3, ![1, 4096, 16384]⟩
abbrev S1x8192x16384 : Shape := ⟨3, ![1, 8192, 16384]⟩
abbrev S1x64x16384 : Shape := ⟨3, ![1, 64, 16384]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S1x64x1024 : Shape := ⟨3, ![1, 64, 1024]⟩
abbrev S4096x1024 : Shape := ⟨2, ![4096, 1024]⟩
abbrev S1024x1024 : Shape := ⟨2, ![1024, 1024]⟩
abbrev S64x1024 : Shape := ⟨2, ![64, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x16384, .bf16⟩
  | .hbm, ⟨3, _⟩ => ⟨S1x8192x16384, .bf16⟩
  | .hbm, ⟨4, _⟩ => ⟨S1x64x16384, .bf16⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x64x1024, .bf16⟩
  | .local _ .vmem, ⟨8, _⟩ => ⟨S1x64x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 16, 8], ![false, false, false]⟩

def k0_cond1 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x4096 : Shape := ⟨2, ![8192, 4096]⟩
abbrev S64x4096 : Shape := ⟨2, ![64, 4096]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩
abbrev S1x8192x16384 : Shape := ⟨3, ![1, 8192, 16384]⟩
abbrev S64x16384 : Shape := ⟨2, ![64, 16384]⟩
abbrev S1x64x16384 : Shape := ⟨3, ![1, 64, 16384]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x16384, .bf16⟩
  | .hbm, ⟨3, _⟩ => ⟨S4096x16384, .bf16⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S8192x16384, .bf16⟩
  | .hbm, ⟨10, _⟩ => ⟨S1x8192x16384, .bf16⟩
  | .hbm, ⟨11, _⟩ => ⟨S4096x16384, .bf16⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x16384, .f32⟩
  | .hbm, ⟨17, _⟩ => ⟨S64x16384, .bf16⟩
  | .hbm, ⟨18, _⟩ => ⟨S1x64x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_cst : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel3.lean ====
abbrev S8192x16384 : Shape := ⟨2, ![8192, 16384]⟩
abbrev S64x16384 : Shape := ⟨2, ![64, 16384]⟩
abbrev S1x16384x4096 : Shape := ⟨3, ![1, 16384, 4096]⟩
abbrev S8192x4096 : Shape := ⟨2, ![8192, 4096]⟩
abbrev S64x4096 : Shape := ⟨2, ![64, 4096]⟩
abbrev S1024x4096 : Shape := ⟨2, ![1024, 4096]⟩
abbrev S1x4096x1024 : Shape := ⟨3, ![1, 4096, 1024]⟩
abbrev S1024x1024 : Shape := ⟨2, ![1024, 1024]⟩
abbrev S64x1024 : Shape := ⟨2, ![64, 1024]⟩
abbrev S4096x1024 : Shape := ⟨2, ![4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x16384, .bf16⟩
  | .hbm, ⟨1, _⟩ => ⟨S64x16384, .bf16⟩
  | .hbm, ⟨2, _⟩ => ⟨S1x16384x4096, .bf16⟩
  | .hbm, ⟨3, _⟩ => ⟨S8192x4096, .f32⟩
  | .hbm, ⟨4, _⟩ => ⟨S64x4096, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S64x4096, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .f32⟩
  | .local _ .vmem, ⟨7, _⟩ => ⟨S1024x1024, .f32⟩
  | .local _ .vmem, ⟨8, _⟩ => ⟨S64x1024, .f32⟩
  | .local _ .vmem, ⟨9, _⟩ => ⟨S64x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg1 : BitVec 32 := BitVec.ofNat 32 (i 1).val
  let c0_i32_9 : BitVec 32 := 0#32
  let v11 : BitVec 1 := Scalar.cmpi .eq arg1 c0_i32_9
  let arg2 : BitVec 32 := BitVec.ofNat 32 (i 2).val
  let c0_i32_10 : BitVec 32 := 0#32
  let v12 : BitVec 1 := Scalar.cmpi .eq arg2 c0_i32_10
  let v13 : BitVec 1 := Scalar.andi v11 v12
  let v14 : BitVec 32 := Scalar.extui v13
  let c0_i32_11 : BitVec 32 := 0#32
  let v15 : BitVec 1 := Scalar.cmpi .ne v14 c0_i32_11
  v15

def k0_cond3 (i : grid0.Coords) : BitVec 1 :=
  let arg1 : BitVec 32 := BitVec.ofNat 32 (i 1).val
  let c0_i32_9 : BitVec 32 := 0#32
  let v11 : BitVec 1 := Scalar.cmpi .eq arg1 c0_i32_9
  let v16 : BitVec 32 := Scalar.extui v11
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference3Ideal.lean ====
abbrev S8192x16384 : Shape := ⟨2, ![8192, 16384]⟩
abbrev S64x16384 : Shape := ⟨2, ![64, 16384]⟩
abbrev S1x16384x4096 : Shape := ⟨3, ![1, 16384, 4096]⟩
abbrev S16384x4096 : Shape := ⟨2, ![16384, 4096]⟩
abbrev S8192x4096 : Shape := ⟨2, ![8192, 4096]⟩
abbrev S64x4096 : Shape := ⟨2, ![64, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S64x16384, .bf16⟩
  | .hbm, ⟨2, _⟩ => ⟨S1x16384x4096, .bf16⟩
  | .hbm, ⟨3, _⟩ => ⟨S16384x4096, .bf16⟩
  | .hbm, ⟨4, _⟩ => ⟨S8192x4096, .f32⟩
  | .hbm, ⟨5, _⟩ => ⟨S16384x4096, .bf16⟩
  | .hbm, ⟨6, _⟩ => ⟨S64x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S64x4096 : Shape := ⟨2, ![64, 4096]⟩
abbrev S4096x6168 : Shape := ⟨2, ![4096, 6168]⟩
abbrev S6168x4096 : Shape := ⟨2, ![6168, 4096]⟩
abbrev S1x6168x4096 : Shape := ⟨3, ![1, 6168, 4096]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x512x4096 : Shape := ⟨3, ![1, 512, 4096]⟩
abbrev S1x1024x512 : Shape := ⟨3, ![1, 1024, 512]⟩
abbrev S1x64x512 : Shape := ⟨3, ![1, 64, 512]⟩
abbrev S512x4096 : Shape := ⟨2, ![512, 4096]⟩
abbrev S1024x512 : Shape := ⟨2, ![1024, 512]⟩
abbrev S64x512 : Shape := ⟨2, ![64, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S6168x4096, .f32⟩
  | .hbm, ⟨4, _⟩ => ⟨S1x6168x4096, .f32⟩
  | .hbm, ⟨5, _⟩ => ⟨S1x8192x3072, .f32⟩
  | .hbm, ⟨6, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x512x4096, .f32⟩
  | .local _ .vmem, ⟨4, _⟩ => ⟨S1x512x4096, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x4096 : Shape := ⟨2, ![8192, 4096]⟩
abbrev S64x4096 : Shape := ⟨2, ![64, 4096]⟩
abbrev S4096x6168 : Shape := ⟨2, ![4096, 6168]⟩
abbrev S8192x6168 : Shape := ⟨2, ![8192, 6168]⟩
abbrev S8192x3072 : Shape := ⟨2, ![8192, 3072]⟩
abbrev S1x8192x3072 : Shape := ⟨3, ![1, 8192, 3072]⟩
abbrev S64x6168 : Shape := ⟨2, ![64, 6168]⟩
abbrev S64x3072 : Shape := ⟨2, ![64, 3072]⟩
abbrev S1x64x3072 : Shape := ⟨3, ![1, 64, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S8192x4096, .f32⟩
  | .hbm, ⟨4, _⟩ => ⟨S8192x6168, .f32⟩
  | .hbm, ⟨5, _⟩ => ⟨S8192x3072, .f32⟩
  | .hbm, ⟨6, _⟩ => ⟨S1x8192x3072, .f32⟩
  | .hbm, ⟨7, _⟩ => ⟨S64x4096, .f32⟩
  | .hbm, ⟨8, _⟩ => ⟨S64x6168, .f32⟩
  | .hbm, ⟨9, _⟩ => ⟨S64x3072, .f32⟩
  | .hbm, ⟨10, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S64x4096 : Shape := ⟨2, ![64, 4096]⟩
abbrev S4096x6168 : Shape := ⟨2, ![4096, 6168]⟩
abbrev S6168x4096 : Shape := ⟨2, ![6168, 4096]⟩
abbrev S1x6168x4096 : Shape := ⟨3, ![1, 6168, 4096]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x512x4096 : Shape := ⟨3, ![1, 512, 4096]⟩
abbrev S1x1024x512 : Shape := ⟨3, ![1, 1024, 512]⟩
abbrev S1x64x512 : Shape := ⟨3, ![1, 64, 512]⟩
abbrev S512x4096 : Shape := ⟨2, ![512, 4096]⟩
abbrev S1024x512 : Shape := ⟨2, ![1024, 512]⟩
abbrev S64x512 : Shape := ⟨2, ![64, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S6168x4096, .f32⟩
  | .hbm, ⟨4, _⟩ => ⟨S1x6168x4096, .f32⟩
  | .hbm, ⟨5, _⟩ => ⟨S1x8192x3072, .f32⟩
  | .hbm, ⟨6, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x512x4096, .f32⟩
  | .local _ .vmem, ⟨4, _⟩ => ⟨S1x512x4096, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S8192x4096 : Shape := ⟨2, ![8192, 4096]⟩
abbrev S64x4096 : Shape := ⟨2, ![64, 4096]⟩
abbrev S4096x6168 : Shape := ⟨2, ![4096, 6168]⟩
abbrev S8192x6168 : Shape := ⟨2, ![8192, 6168]⟩
abbrev S8192x3072 : Shape := ⟨2, ![8192, 3072]⟩
abbrev S1x8192x3072 : Shape := ⟨3, ![1, 8192, 3072]⟩
abbrev S64x6168 : Shape := ⟨2, ![64, 6168]⟩
abbrev S64x3072 : Shape := ⟨2, ![64, 3072]⟩
abbrev S1x64x3072 : Shape := ⟨3, ![1, 64, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S8192x4096, .f32⟩
  | .hbm, ⟨4, _⟩ => ⟨S8192x6168, .f32⟩
  | .hbm, ⟨5, _⟩ => ⟨S8192x3072, .f32⟩
  | .hbm, ⟨6, _⟩ => ⟨S1x8192x3072, .f32⟩
  | .hbm, ⟨7, _⟩ => ⟨S64x4096, .f32⟩
  | .hbm, ⟨8, _⟩ => ⟨S64x6168, .f32⟩
  | .hbm, ⟨9, _⟩ => ⟨S64x3072, .f32⟩
  | .hbm, ⟨10, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x4096 : Shape := ⟨2, ![8192, 4096]⟩
abbrev S64x4096 : Shape := ⟨2, ![64, 4096]⟩
abbrev S4096x6168 : Shape := ⟨2, ![4096, 6168]⟩
abbrev S24 : Shape := ⟨1, ![24]⟩
abbrev S6168x4096 : Shape := ⟨2, ![6168, 4096]⟩
abbrev S24x4096 : Shape := ⟨2, ![24, 4096]⟩
abbrev S_ : Shape := ⟨0, ![]⟩
abbrev S128x4096 : Shape := ⟨2, ![128, 4096]⟩
abbrev S1x128x4096 : Shape := ⟨3, ![1, 128, 4096]⟩
abbrev S128 : Shape := ⟨1, ![128]⟩
abbrev S1x128 : Shape := ⟨2, ![1, 128]⟩
abbrev S1x8192x128 : Shape := ⟨3, ![1, 8192, 128]⟩
abbrev S1x64x128 : Shape := ⟨3, ![1, 64, 128]⟩
abbrev S1024x4096 : Shape := ⟨2, ![1024, 4096]⟩
abbrev S1x1024x128 : Shape := ⟨3, ![1, 1024, 128]⟩
abbrev S1024x128 : Shape := ⟨2, ![1024, 128]⟩
abbrev S64x128 : Shape := ⟨2, ![64, 128]⟩

abbrev nBuf : Space → Nat
  | .hbm => 16
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S24, .f32⟩
  | .hbm, ⟨4, _⟩ => ⟨S6168x4096, .f32⟩
  | .hbm, ⟨5, _⟩ => ⟨S24x4096, .f32⟩
  | .hbm, ⟨6, _⟩ => ⟨S_, .i32⟩
  | .hbm, ⟨7, _⟩ => ⟨S_, .f32⟩
  | .hbm, ⟨8, _⟩ => ⟨S128x4096, .f32⟩
  | .hbm, ⟨9, _⟩ => ⟨S1x128x4096, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x8192x128, .f32⟩
  | .hbm, ⟨15, _⟩ => ⟨S1x64x128, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x128x4096, .f32⟩
  | .local _ .vmem, ⟨4, _⟩ => ⟨S1x128, .f32⟩
  | .local _ .vmem, ⟨5, _⟩ => ⟨S1x1024x128, .f32⟩
  | .local _ .vmem, ⟨6, _⟩ => ⟨S1x1024x128, .f32⟩
  | .local _ .vmem, ⟨7, _⟩ => ⟨S1x64x128, .f32⟩
  | .local _ .vmem, ⟨8, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== Reference6Ideal.lean ====
abbrev S8192x4096 : Shape := ⟨2, ![8192, 4096]⟩
abbrev S64x4096 : Shape := ⟨2, ![64, 4096]⟩
abbrev S4096x6168 : Shape := ⟨2, ![4096, 6168]⟩
abbrev S24 : Shape := ⟨1, ![24]⟩
abbrev S4096x24 : Shape := ⟨2, ![4096, 24]⟩
abbrev S8192x24 : Shape := ⟨2, ![8192, 24]⟩
abbrev S1x24 : Shape := ⟨2, ![1, 24]⟩
abbrev S_ : Shape := ⟨0, ![]⟩
abbrev S8192x128 : Shape := ⟨2, ![8192, 128]⟩
abbrev S1x8192x128 : Shape := ⟨3, ![1, 8192, 128]⟩
abbrev S64x24 : Shape := ⟨2, ![64, 24]⟩
abbrev S64x128 : Shape := ⟨2, ![64, 128]⟩
abbrev S1x64x128 : Shape := ⟨3, ![1, 64, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S4096x6168, .f32⟩
  | .hbm, ⟨3, _⟩ => ⟨S24, .f32⟩
  | .hbm, ⟨4, _⟩ => ⟨S8192x4096, .f32⟩
  | .hbm, ⟨5, _⟩ => ⟨S4096x24, .f32⟩
  | .hbm, ⟨6, _⟩ => ⟨S8192x24, .f32⟩
  | .hbm, ⟨7, _⟩ => ⟨S1x24, .f32⟩
  | .hbm, ⟨8, _⟩ => ⟨S8192x24, .f32⟩
  | .hbm, ⟨9, _⟩ => ⟨S8192x24, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .i1⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S1x8192x128, .f32⟩
  | .hbm, ⟨30, _⟩ => ⟨S64x4096, .f32⟩
  | .hbm, ⟨31, _⟩ => ⟨S4096x24, .f32⟩
  | .hbm, ⟨32, _⟩ => ⟨S64x24, .f32⟩
  | .hbm, ⟨33, _⟩ => ⟨S1x24, .f32⟩
  | .hbm, ⟨34, _⟩ => ⟨S64x24, .f32⟩
  | .hbm, ⟨35, _⟩ => ⟨S64x24, .f32⟩
  | .hbm, ⟨36, _⟩ => ⟨S_, .i32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S_, .f32⟩
  | .hbm, ⟨41, _⟩ => ⟨S64x128, .f32⟩
  | .hbm, ⟨42, _⟩ => ⟨S64x128, .f32⟩
  | .hbm, ⟨43, _⟩ => ⟨S64x128, .f32⟩
  | .hbm, ⟨44, _⟩ => ⟨S64x128, .f32⟩
  | .hbm, ⟨45, _⟩ => ⟨S64x128, .i1⟩
  | .hbm, ⟨46, _⟩ => ⟨S64x128, .f32⟩
  | .hbm, ⟨47, _⟩ => ⟨S64x128, .f32⟩
  | .hbm, ⟨48, _⟩ => ⟨S64x128, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S64x128, .f32⟩
  | .hbm, ⟨54, _⟩ => ⟨S64x128, .f32⟩
  | .hbm, ⟨55, _⟩ => ⟨S1x64x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_call1_v0 : Ref sig .tc := ⟨.hbm, 13, rfl⟩
abbrev main_call1_call0_cst : Ref sig .tc := ⟨.hbm, 14, rfl⟩
abbrev main_call1_call0_v0 : Ref sig .tc := ⟨.hbm, 15, rfl⟩
abbrev main_call1_call0_v1 : Ref sig .tc := ⟨.hbm, 16, rfl⟩
abbrev main_call1_call0_v2 : Ref sig .tc := ⟨.hbm, 17, rfl⟩
abbrev main_call1_call0_v3 : Ref sig .tc := ⟨.hbm, 18, rfl⟩
abbrev main_call1_call0_v4 : Ref sig .tc := ⟨.hbm, 19, rfl⟩
abbrev main_call1_call0_v5 : Ref sig .tc := ⟨.hbm, 20, rfl⟩
abbrev main_call1_call0_v6 : Ref sig .tc := ⟨.hbm, 21, rfl⟩
abbrev main_call1_call0_v7 : Ref sig .tc := ⟨.hbm, 22, rfl⟩
abbrev main_call1_call0_v8 : Ref sig .tc := ⟨.hbm, 23, rfl⟩
abbrev main_call1_call0_v9 : Ref sig .tc := ⟨.hbm, 24, rfl⟩
abbrev main_call1_call0_v10 : Ref sig .tc := ⟨.hbm, 25, rfl⟩
abbrev main_call1_call0_v11 : Ref sig .tc := ⟨.hbm, 26, rfl⟩
abbrev main_call1_v1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_call2_v0 : Ref sig .tc := ⟨.hbm, 37, rfl⟩
abbrev main_v15 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v16 : Ref sig .tc := ⟨.hbm, 54, rfl⟩
abbrev main_v17 : Ref sig .tc := ⟨.hbm, 55, rfl⟩

abbrev nD : Nat := 1
abbrev τ : Topo := Topo.v7x

variable {F : FTy → Type} [FloatOps F]
-- ==== Kernel7.lean ====
abbrev S1024x4096 : Shape := ⟨2, ![1024, 4096]⟩
abbrev S2x4096x2048 : Shape := ⟨3, ![2, 4096, 2048]⟩
abbrev S2x1024x1024 : Shape := ⟨3, ![2, 1024, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S2x1024x1024, .f32⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1x1024x512, .f32⟩
  | .local _ .vmem, ⟨4, _⟩ => ⟨S1x1024x512, .f32⟩
  | .local _ .vmem, ⟨5, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference7Ideal.lean ====
abbrev S1024x4096 : Shape := ⟨2, ![1024, 4096]⟩
abbrev S2x4096x2048 : Shape := ⟨3, ![2, 4096, 2048]⟩
abbrev S2x2048x1024 : Shape := ⟨3, ![2, 2048, 1024]⟩
abbrev S2x1024x2048 : Shape := ⟨3, ![2, 1024, 2048]⟩
abbrev S2x1024x1024 : Shape := ⟨3, ![2, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S1024x4096, .f32⟩
  | .hbm, ⟨3, _⟩ => ⟨S2x2048x1024, .f32⟩
  | .hbm, ⟨4, _⟩ => ⟨S2x1024x2048, .f32⟩
  | .hbm, ⟨5, _⟩ => ⟨S2x1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S1024x4096 : Shape := ⟨2, ![1024, 4096]⟩
abbrev S2x4096x2048 : Shape := ⟨3, ![2, 4096, 2048]⟩
abbrev S2x1024x1024 : Shape := ⟨3, ![2, 1024, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S2x1024x1024, .f32⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1x1024x512, .f32⟩
  | .local _ .vmem, ⟨4, _⟩ => ⟨S1x1024x512, .f32⟩
  | .local _ .vmem, ⟨5, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S1024x4096 : Shape := ⟨2, ![1024, 4096]⟩
abbrev S2x4096x2048 : Shape := ⟨3, ![2, 4096, 2048]⟩
abbrev S2x2048x1024 : Shape := ⟨3, ![2, 2048, 1024]⟩
abbrev S2x1024x2048 : Shape := ⟨3, ![2, 1024, 2048]⟩
abbrev S2x1024x1024 : Shape := ⟨3, ![2, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S1024x4096, .f32⟩
  | .hbm, ⟨3, _⟩ => ⟨S2x2048x1024, .f32⟩
  | .hbm, ⟨4, _⟩ => ⟨S2x1024x2048, .f32⟩
  | .hbm, ⟨5, _⟩ => ⟨S2x1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel9Ideal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 5
  | .vmem => 4
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S1x4096, .f32⟩
  | .hbm, ⟨4, _⟩ => ⟨S64x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference10Ideal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S1x4096, .f32⟩
  | .hbm, ⟨17, _⟩ => ⟨S64x4096, .f32⟩
  | .hbm, ⟨18, _⟩ => ⟨S64x4096, .f32⟩
  | .hbm, ⟨19, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S8192x4096 : Shape := ⟨2, ![8192, 4096]⟩
abbrev S64x4096 : Shape := ⟨2, ![64, 4096]⟩
abbrev S1x4096x13312 : Shape := ⟨3, ![1, 4096, 13312]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S1x8192x3072, .f32⟩
  | .hbm, ⟨4, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S8192x4096 : Shape := ⟨2, ![8192, 4096]⟩
abbrev S64x4096 : Shape := ⟨2, ![64, 4096]⟩
abbrev S1x4096x13312 : Shape := ⟨3, ![1, 4096, 13312]⟩
abbrev S4096x13312 : Shape := ⟨2, ![4096, 13312]⟩
abbrev S8192x13312 : Shape := ⟨2, ![8192, 13312]⟩
abbrev S8192x3072 : Shape := ⟨2, ![8192, 3072]⟩
abbrev S_ : Shape := ⟨0, ![]⟩
abbrev S1x8192x3072 : Shape := ⟨3, ![1, 8192, 3072]⟩
abbrev S64x13312 : Shape := ⟨2, ![64, 13312]⟩
abbrev S64x3072 : Shape := ⟨2, ![64, 3072]⟩
abbrev S1x64x3072 : Shape := ⟨3, ![1, 64, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S8192x4096, .f32⟩
  | .hbm, ⟨4, _⟩ => ⟨S4096x13312, .f32⟩
  | .hbm, ⟨5, _⟩ => ⟨S8192x13312, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x8192x3072, .f32⟩
  | .hbm, ⟨17, _⟩ => ⟨S64x4096, .f32⟩
  | .hbm, ⟨18, _⟩ => ⟨S4096x13312, .f32⟩
  | .hbm, ⟨19, _⟩ => ⟨S64x13312, .f32⟩
  | .hbm, ⟨20, _⟩ => ⟨S64x3072, .f32⟩
  | .hbm, ⟨21, _⟩ => ⟨S64x3072, .f32⟩
  | .hbm, ⟨22, _⟩ => ⟨S64x3072, .f32⟩
  | .hbm, ⟨23, _⟩ => ⟨S_, .f32⟩
  | .hbm, ⟨24, _⟩ => ⟨S64x3072, .f32⟩
  | .hbm, ⟨25, _⟩ => ⟨S64x3072, .f32⟩
  | .hbm, ⟨26, _⟩ => ⟨S_, .f32⟩
  | .hbm, ⟨27, _⟩ => ⟨S64x3072, .f32⟩
  | .hbm, ⟨28, _⟩ => ⟨S64x3072, .f32⟩
  | .hbm, ⟨29, _⟩ => ⟨S64x3072, .f32⟩
  | .hbm, ⟨30, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel12.lean ====
abbrev S8192x4096 : Shape := ⟨2, ![8192, 4096]⟩
abbrev S64x4096 : Shape := ⟨2, ![64, 4096]⟩
abbrev S1x4096x13312 : Shape := ⟨3, ![1, 4096, 13312]⟩
abbrev S3072 : Shape := ⟨1, ![3072]⟩
abbrev S1x3072 : Shape := ⟨2, ![1, 3072]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x4096x512 : Shape := ⟨3, ![1, 4096, 512]⟩
abbrev S1x512 : Shape := ⟨2, ![1, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S3072, .f32⟩
  | .hbm, ⟨4, _⟩ => ⟨S1x3072, .f32⟩
  | .hbm, ⟨5, _⟩ => ⟨S1x8192x3072, .f32⟩
  | .hbm, ⟨6, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x512, .f32⟩
  | .local _ .vmem, ⟨6, _⟩ => ⟨S1x512, .f32⟩
  | .local _ .vmem, ⟨7, _⟩ => ⟨S1x1024x512, .f32⟩
  | .local _ .vmem, ⟨8, _⟩ => ⟨S1x1024x512, .f32⟩
  | .local _ .vmem, ⟨9, _⟩ => ⟨S1x64x512, .f32⟩
  | .local _ .vmem, ⟨10, _⟩ => ⟨S1x64x512, .f32⟩
  | .local _ .vmem, ⟨11, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x4096 : Shape := ⟨2, ![8192, 4096]⟩
abbrev S64x4096 : Shape := ⟨2, ![64, 4096]⟩
abbrev S1x4096x13312 : Shape := ⟨3, ![1, 4096, 13312]⟩
abbrev S3072 : Shape := ⟨1, ![3072]⟩
abbrev S_ : Shape := ⟨0, ![]⟩
abbrev S4096x13312 : Shape := ⟨2, ![4096, 13312]⟩
abbrev S8192x13312 : Shape := ⟨2, ![8192, 13312]⟩
abbrev S8192x3072 : Shape := ⟨2, ![8192, 3072]⟩
abbrev S1x3072 : Shape := ⟨2, ![1, 3072]⟩
abbrev S1x8192x3072 : Shape := ⟨3, ![1, 8192, 3072]⟩
abbrev S64x13312 : Shape := ⟨2, ![64, 13312]⟩
abbrev S64x3072 : Shape := ⟨2, ![64, 3072]⟩
abbrev S1x64x3072 : Shape := ⟨3, ![1, 64, 3072]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S3072, .f32⟩
  | .hbm, ⟨4, _⟩ => ⟨S_, .f32⟩
  | .hbm, ⟨5, _⟩ => ⟨S3072, .f32⟩
  | .hbm, ⟨6, _⟩ => ⟨S3072, .f32⟩
  | .hbm, ⟨7, _⟩ => ⟨S8192x4096, .f32⟩
  | .hbm, ⟨8, _⟩ => ⟨S4096x13312, .f32⟩
  | .hbm, ⟨9, _⟩ => ⟨S8192x13312, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S1x8192x3072, .f32⟩
  | .hbm, ⟨26, _⟩ => ⟨S_, .f32⟩
  | .hbm, ⟨27, _⟩ => ⟨S3072, .f32⟩
  | .hbm, ⟨28, _⟩ => ⟨S3072, .f32⟩
  | .hbm, ⟨29, _⟩ => ⟨S64x4096, .f32⟩
  | .hbm, ⟨30, _⟩ => ⟨S4096x13312, .f32⟩
  | .hbm, ⟨31, _⟩ => ⟨S64x13312, .f32⟩
  | .hbm, ⟨32, _⟩ => ⟨S64x3072, .f32⟩
  | .hbm, ⟨33, _⟩ => ⟨S64x3072, .f32⟩
  | .hbm, ⟨34, _⟩ => ⟨S64x3072, .f32⟩
  | .hbm, ⟨35, _⟩ => ⟨S_, .f32⟩
  | .hbm, ⟨36, _⟩ => ⟨S64x3072, .f32⟩
  | .hbm, ⟨37, _⟩ => ⟨S64x3072, .f32⟩
  | .hbm, ⟨38, _⟩ => ⟨S_, .f32⟩
  | .hbm, ⟨39, _⟩ => ⟨S64x3072, .f32⟩
  | .hbm, ⟨40, _⟩ => ⟨S64x3072, .f32⟩
  | .hbm, ⟨41, _⟩ => ⟨S1x3072, .f32⟩
  | .hbm, ⟨42, _⟩ => ⟨S64x3072, .f32⟩
  | .hbm, ⟨43, _⟩ => ⟨S64x3072, .f32⟩
  | .hbm, ⟨44, _⟩ => ⟨S1x3072, .f32⟩
  | .hbm, ⟨45, _⟩ => ⟨S64x3072, .f32⟩
  | .hbm, ⟨46, _⟩ => ⟨S64x3072, .f32⟩
  | .hbm, ⟨47, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel13.lean ====
abbrev S8192x4096 : Shape := ⟨2, ![8192, 4096]⟩
abbrev S64x4096 : Shape := ⟨2, ![64, 4096]⟩
abbrev S1x4096x13312 : Shape := ⟨3, ![1, 4096, 13312]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S1x8192x3072, .f32⟩
  | .hbm, ⟨4, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference13Ideal.lean ====
abbrev S8192x4096 : Shape := ⟨2, ![8192, 4096]⟩
abbrev S64x4096 : Shape := ⟨2, ![64, 4096]⟩
abbrev S1x4096x13312 : Shape := ⟨3, ![1, 4096, 13312]⟩
abbrev S4096x13312 : Shape := ⟨2, ![4096, 13312]⟩
abbrev S8192x13312 : Shape := ⟨2, ![8192, 13312]⟩
abbrev S8192x3072 : Shape := ⟨2, ![8192, 3072]⟩
abbrev S1x8192x3072 : Shape := ⟨3, ![1, 8192, 3072]⟩
abbrev S64x13312 : Shape := ⟨2, ![64, 13312]⟩
abbrev S64x3072 : Shape := ⟨2, ![64, 3072]⟩
abbrev S1x64x3072 : Shape := ⟨3, ![1, 64, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S8192x4096, .f32⟩
  | .hbm, ⟨4, _⟩ => ⟨S4096x13312, .f32⟩
  | .hbm, ⟨5, _⟩ => ⟨S8192x13312, .f32⟩
  | .hbm, ⟨6, _⟩ => ⟨S8192x3072, .f32⟩
  | .hbm, ⟨7, _⟩ => ⟨S1x8192x3072, .f32⟩
  | .hbm, ⟨8, _⟩ => ⟨S64x4096, .f32⟩
  | .hbm, ⟨9, _⟩ => ⟨S4096x13312, .f32⟩
  | .hbm, ⟨10, _⟩ => ⟨S64x13312, .f32⟩
  | .hbm, ⟨11, _⟩ => ⟨S64x3072, .f32⟩
  | .hbm, ⟨12, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S8192x4096 : Shape := ⟨2, ![8192, 4096]⟩
abbrev S64x4096 : Shape := ⟨2, ![64, 4096]⟩
abbrev S1x4096x13312 : Shape := ⟨3, ![1, 4096, 13312]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S1x8192x3072, .f32⟩
  | .hbm, ⟨4, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference14Ideal.lean ====
abbrev S8192x4096 : Shape := ⟨2, ![8192, 4096]⟩
abbrev S64x4096 : Shape := ⟨2, ![64, 4096]⟩
abbrev S1x4096x13312 : Shape := ⟨3, ![1, 4096, 13312]⟩
abbrev S4096x13312 : Shape := ⟨2, ![4096, 13312]⟩
abbrev S8192x13312 : Shape := ⟨2, ![8192, 13312]⟩
abbrev S8192x3072 : Shape := ⟨2, ![8192, 3072]⟩
abbrev S_ : Shape := ⟨0, ![]⟩
abbrev S1x8192x3072 : Shape := ⟨3, ![1, 8192, 3072]⟩
abbrev S64x13312 : Shape := ⟨2, ![64, 13312]⟩
abbrev S64x3072 : Shape := ⟨2, ![64, 3072]⟩
abbrev S1x64x3072 : Shape := ⟨3, ![1, 64, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S8192x4096, .f32⟩
  | .hbm, ⟨4, _⟩ => ⟨S4096x13312, .f32⟩
  | .hbm, ⟨5, _⟩ => ⟨S8192x13312, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x8192x3072, .f32⟩
  | .hbm, ⟨17, _⟩ => ⟨S64x4096, .f32⟩
  | .hbm, ⟨18, _⟩ => ⟨S4096x13312, .f32⟩
  | .hbm, ⟨19, _⟩ => ⟨S64x13312, .f32⟩
  | .hbm, ⟨20, _⟩ => ⟨S64x3072, .f32⟩
  | .hbm, ⟨21, _⟩ => ⟨S64x3072, .f32⟩
  | .hbm, ⟨22, _⟩ => ⟨S64x3072, .f32⟩
  | .hbm, ⟨23, _⟩ => ⟨S_, .f32⟩
  | .hbm, ⟨24, _⟩ => ⟨S64x3072, .f32⟩
  | .hbm, ⟨25, _⟩ => ⟨S64x3072, .f32⟩
  | .hbm, ⟨26, _⟩ => ⟨S_, .f32⟩
  | .hbm, ⟨27, _⟩ => ⟨S64x3072, .f32⟩
  | .hbm, ⟨28, _⟩ => ⟨S64x3072, .f32⟩
  | .hbm, ⟨29, _⟩ => ⟨S64x3072, .f32⟩
  | .hbm, ⟨30, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel15.lean ====
abbrev S8192x4096 : Shape := ⟨2, ![8192, 4096]⟩
abbrev S64x4096 : Shape := ⟨2, ![64, 4096]⟩
abbrev S1x4096x13312 : Shape := ⟨3, ![1, 4096, 13312]⟩
abbrev S1x8192x1024 : Shape := ⟨3, ![1, 8192, 1024]⟩
abbrev S1x64x1024 : Shape := ⟨3, ![1, 64, 1024]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S1x8192x1024, .f32⟩
  | .hbm, ⟨4, _⟩ => ⟨S1x64x1024, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference15Ideal.lean ====
abbrev S8192x4096 : Shape := ⟨2, ![8192, 4096]⟩
abbrev S64x4096 : Shape := ⟨2, ![64, 4096]⟩
abbrev S1x4096x13312 : Shape := ⟨3, ![1, 4096, 13312]⟩
abbrev S4096x13312 : Shape := ⟨2, ![4096, 13312]⟩
abbrev S8192x13312 : Shape := ⟨2, ![8192, 13312]⟩
abbrev S8192x1024 : Shape := ⟨2, ![8192, 1024]⟩
abbrev S1x8192x1024 : Shape := ⟨3, ![1, 8192, 1024]⟩
abbrev S64x13312 : Shape := ⟨2, ![64, 13312]⟩
abbrev S64x1024 : Shape := ⟨2, ![64, 1024]⟩
abbrev S1x64x1024 : Shape := ⟨3, ![1, 64, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x13312, .f32⟩
  | .hbm, ⟨3, _⟩ => ⟨S8192x4096, .f32⟩
  | .hbm, ⟨4, _⟩ => ⟨S4096x13312, .f32⟩
  | .hbm, ⟨5, _⟩ => ⟨S8192x13312, .f32⟩
  | .hbm, ⟨6, _⟩ => ⟨S8192x1024, .f32⟩
  | .hbm, ⟨7, _⟩ => ⟨S1x8192x1024, .f32⟩
  | .hbm, ⟨8, _⟩ => ⟨S64x4096, .f32⟩
  | .hbm, ⟨9, _⟩ => ⟨S4096x13312, .f32⟩
  | .hbm, ⟨10, _⟩ => ⟨S64x13312, .f32⟩
  | .hbm, ⟨11, _⟩ => ⟨S64x1024, .f32⟩
  | .hbm, ⟨12, _⟩ => ⟨S1x64x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S8192x4096 : Shape := ⟨2, ![8192, 4096]⟩
abbrev S64x4096 : Shape := ⟨2, ![64, 4096]⟩
abbrev S1x4096x4096 : Shape := ⟨3, ![1, 4096, 4096]⟩
abbrev S1x8192x3072 : Shape := ⟨3, ![1, 8192, 3072]⟩
abbrev S1x64x3072 : Shape := ⟨3, ![1, 64, 3072]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x4096, .f32⟩
  | .hbm, ⟨3, _⟩ => ⟨S1x8192x3072, .f32⟩
  | .hbm, ⟨4, _⟩ => ⟨S1x64x3072, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S8192x4096 : Shape := ⟨2, ![8192, 4096]⟩
abbrev S64x4096 : Shape := ⟨2, ![64, 4096]⟩
abbrev S1x4096x4096 : Shape := ⟨3, ![1, 4096, 4096]⟩
abbrev S4096x4096 : Shape := ⟨2, ![4096, 4096]⟩
abbrev S8192x3072 : Shape := ⟨2, ![8192, 3072]⟩
abbrev S1x8192x3072 : Shape := ⟨3, ![1, 8192, 3072]⟩
abbrev S64x3072 : Shape := ⟨2, ![64, 3072]⟩
abbrev S1x64x3072 : Shape := ⟨3, ![1, 64, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x3072, .f32⟩
  | .hbm, ⟨7, _⟩ => ⟨S1x8192x3072, .f32⟩
  | .hbm, ⟨8, _⟩ => ⟨S64x4096, .f32⟩
  | .hbm, ⟨9, _⟩ => ⟨S4096x4096, .f32⟩
  | .hbm, ⟨10, _⟩ => ⟨S64x4096, .f32⟩
  | .hbm, ⟨11, _⟩ => ⟨S64x3072, .f32⟩
  | .hbm, ⟨12, _⟩ => ⟨S1x64x3072, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel17.lean ====
abbrev S8192x4096 : Shape := ⟨2, ![8192, 4096]⟩
abbrev S64x4096 : Shape := ⟨2, ![64, 4096]⟩
abbrev S1x4096x4096 : Shape := ⟨3, ![1, 4096, 4096]⟩
abbrev S1x8192x1024 : Shape := ⟨3, ![1, 8192, 1024]⟩
abbrev S1x64x1024 : Shape := ⟨3, ![1, 64, 1024]⟩
abbrev S1024x4096 : Shape := ⟨2, ![1024, 4096]⟩
abbrev S1x4096x512 : Shape := ⟨3, ![1, 4096, 512]⟩
abbrev S1x1024x512 : Shape := ⟨3, ![1, 1024, 512]⟩
abbrev S1x64x512 : Shape := ⟨3, ![1, 64, 512]⟩
abbrev S4096x512 : Shape := ⟨2, ![4096, 512]⟩
abbrev S1024x512 : Shape := ⟨2, ![1024, 512]⟩
abbrev S64x512 : Shape := ⟨2, ![64, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x4096, .f32⟩
  | .hbm, ⟨3, _⟩ => ⟨S1x8192x1024, .f32⟩
  | .hbm, ⟨4, _⟩ => ⟨S1x64x1024, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S1x4096x512, .f32⟩
  | .local _ .vmem, ⟨4, _⟩ => ⟨S1x4096x512, .f32⟩
  | .local _ .vmem, ⟨5, _⟩ => ⟨S1x1024x512, .f32⟩
  | .local _ .vmem, ⟨6, _⟩ => ⟨S1x1024x512, .f32⟩
  | .local _ .vmem, ⟨7, _⟩ => ⟨S1x64x512, .f32⟩
  | .local _ .vmem, ⟨8, _⟩ => ⟨S1x64x512, .f32⟩
  | .local _ .vmem, ⟨9, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference17Ideal.lean ====
abbrev S8192x4096 : Shape := ⟨2, ![8192, 4096]⟩
abbrev S64x4096 : Shape := ⟨2, ![64, 4096]⟩
abbrev S1x4096x4096 : Shape := ⟨3, ![1, 4096, 4096]⟩
abbrev S4096x4096 : Shape := ⟨2, ![4096, 4096]⟩
abbrev S8192x1024 : Shape := ⟨2, ![8192, 1024]⟩
abbrev S1x8192x1024 : Shape := ⟨3, ![1, 8192, 1024]⟩
abbrev S64x1024 : Shape := ⟨2, ![64, 1024]⟩
abbrev S1x64x1024 : Shape := ⟨3, ![1, 64, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S1x4096x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x1024, .f32⟩
  | .hbm, ⟨7, _⟩ => ⟨S1x8192x1024, .f32⟩
  | .hbm, ⟨8, _⟩ => ⟨S64x4096, .f32⟩
  | .hbm, ⟨9, _⟩ => ⟨S4096x4096, .f32⟩
  | .hbm, ⟨10, _⟩ => ⟨S64x4096, .f32⟩
  | .hbm, ⟨11, _⟩ => ⟨S64x1024, .f32⟩
  | .hbm, ⟨12, _⟩ => ⟨S1x64x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S8192x3072 : Shape := ⟨2, ![8192, 3072]⟩
abbrev S8192x1024 : Shape := ⟨2, ![8192, 1024]⟩
abbrev S64x3072 : Shape := ⟨2, ![64, 3072]⟩
abbrev S64x1024 : Shape := ⟨2, ![64, 1024]⟩
abbrev S1x4096x4096 : Shape := ⟨3, ![1, 4096, 4096]⟩
abbrev S1x8192x4096 : Shape := ⟨3, ![1, 8192, 4096]⟩
abbrev S1x64x4096 : Shape := ⟨3, ![1, 64, 4096]⟩
abbrev S1024x3072 : Shape := ⟨2, ![1024, 3072]⟩
abbrev S1024x1024 : Shape := ⟨2, ![1024, 1024]⟩
abbrev S1x4096x1024 : Shape := ⟨3, ![1, 4096, 1024]⟩
abbrev S1x1024x1024 : Shape := ⟨3, ![1, 1024, 1024]⟩
abbrev S1x64x1024 : Shape := ⟨3, ![1, 64, 1024]⟩
abbrev S1x3072x1024 : Shape := ⟨3, ![1, 3072, 1024]⟩
abbrev S3072x1024 : Shape := ⟨2, ![3072, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S64x3072, .bf16⟩
  | .hbm, ⟨3, _⟩ => ⟨S64x1024, .bf16⟩
  | .hbm, ⟨4, _⟩ => ⟨S1x4096x4096, .bf16⟩
  | .hbm, ⟨5, _⟩ => ⟨S1x8192x4096, .f32⟩
  | .hbm, ⟨6, _⟩ => ⟨S1x64x4096, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S64x3072, .bf16⟩
  | .local _ .vmem, ⟨5, _⟩ => ⟨S64x1024, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x64x1024, .f32⟩
  | .local _ .vmem, ⟨11, _⟩ => ⟨S1x64x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32 : BitVec 32 := 0#32
  let v14 : BitVec 1 := Scalar.cmpi .ne v13 c0_i32
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S64x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference18Ideal.lean ====
abbrev S8192x3072 : Shape := ⟨2, ![8192, 3072]⟩
abbrev S8192x1024 : Shape := ⟨2, ![8192, 1024]⟩
abbrev S64x3072 : Shape := ⟨2, ![64, 3072]⟩
abbrev S64x1024 : Shape := ⟨2, ![64, 1024]⟩
abbrev S1x4096x4096 : Shape := ⟨3, ![1, 4096, 4096]⟩
abbrev S8192x4096 : Shape := ⟨2, ![8192, 4096]⟩
abbrev S4096x4096 : Shape := ⟨2, ![4096, 4096]⟩
abbrev S1x8192x4096 : Shape := ⟨3, ![1, 8192, 4096]⟩
abbrev S64x4096 : Shape := ⟨2, ![64, 4096]⟩
abbrev S1x64x4096 : Shape := ⟨3, ![1, 64, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S64x3072, .bf16⟩
  | .hbm, ⟨3, _⟩ => ⟨S64x1024, .bf16⟩
  | .hbm, ⟨4, _⟩ => ⟨S1x4096x4096, .bf16⟩
  | .hbm, ⟨5, _⟩ => ⟨S8192x4096, .bf16⟩
  | .hbm, ⟨6, _⟩ => ⟨S4096x4096, .bf16⟩
  | .hbm, ⟨7, _⟩ => ⟨S8192x4096, .f32⟩
  | .hbm, ⟨8, _⟩ => ⟨S1x8192x4096, .f32⟩
  | .hbm, ⟨9, _⟩ => ⟨S64x4096, .bf16⟩
  | .hbm, ⟨10, _⟩ => ⟨S4096x4096, .bf16⟩
  | .hbm, ⟨11, _⟩ => ⟨S64x4096, .f32⟩
  | .hbm, ⟨12, _⟩ => ⟨S1x64x4096, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel19.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel20.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel21.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S8192x4096, .bf16⟩
  | .hbm, ⟨39, _⟩ => ⟨S8192x4096, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel22.lean ====
abbrev S4x2048x1024 : Shape := ⟨3, ![4, 2048, 1024]⟩
abbrev S2x4x256x1024 : Shape := ⟨4, ![2, 4, 256, 1024]⟩
abbrev S1x512x1024 : Shape := ⟨3, ![1, 512, 1024]⟩
abbrev S1x1x256x1024 : Shape := ⟨4, ![1, 1, 256, 1024]⟩
abbrev S1x512x256 : Shape := ⟨3, ![1, 512, 256]⟩
abbrev S512x256 : Shape := ⟨2, ![512, 256]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S2x4x256x1024, .f32⟩
  | .hbm, ⟨2, _⟩ => ⟨S2x4x256x1024, .f32⟩
  | .hbm, ⟨3, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x512x1024, .bf16⟩
  | .local _ .vmem, ⟨7, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S4x2048x1024 : Shape := ⟨3, ![4, 2048, 1024]⟩
abbrev S2x4x256x1024 : Shape := ⟨4, ![2, 4, 256, 1024]⟩
abbrev S4x2048x4x256 : Shape := ⟨4, ![4, 2048, 4, 256]⟩
abbrev S1x4x256x1024 : Shape := ⟨4, ![1, 4, 256, 1024]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2x4x256x1024, .f32⟩
  | .hbm, ⟨2, _⟩ => ⟨S2x4x256x1024, .f32⟩
  | .hbm, ⟨3, _⟩ => ⟨S4x2048x4x256, .f32⟩
  | .hbm, ⟨4, _⟩ => ⟨S1x4x256x1024, .f32⟩
  | .hbm, ⟨5, _⟩ => ⟨S4x256x1024, .f32⟩
  | .hbm, ⟨6, _⟩ => ⟨S4x256x4x256, .f32⟩
  | .hbm, ⟨7, _⟩ => ⟨S1x4x256x1024, .f32⟩
  | .hbm, ⟨8, _⟩ => ⟨S4x256x1024, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x256x2048, .f32⟩
  | .hbm, ⟨29, _⟩ => ⟨S4x2048x4x256, .f32⟩
  | .hbm, ⟨30, _⟩ => ⟨S4x2048x1024, .f32⟩
  | .hbm, ⟨31, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! What one grid point of the recurrence leaves in its two blocks, as formulas over its input blocks, and how the point's row buffer is read back. -/

noncomputable section

namespace Cert.KernelIdeal.Block

open Cert.KernelIdeal Cert.KernelIdeal.Gen Idealize.ShloMosaic Idealize.ShloMosaic.TcCoe Idealize.SL.Sem
open Idealize.ShloMosaic.Pipeline (Dat)

/-- The recurrent state of head `h` of a block after `n` tokens, at key lane `k` and value lane `l`: each token multiplies it by
    its gate and adds the value weighted by one minus the gate. -/
def stAt (f v : Vec Ideal S1x8x768 .f32) (s : Vec Ideal S1x6x128x128 .f32) (h : Fin 6) (k l : Fin 128) : ℕ → EReal
  | 0 => s (ix4 0 h k l)
  | n + 1 => stAt f v s h k l n * f (ix3 0 ⟨n % 8, by omega⟩ ⟨128 * h.val + k.val, by omega⟩)
      + v (ix3 0 ⟨n % 8, by omega⟩ ⟨128 * h.val + l.val, by omega⟩) * (1 - f (ix3 0 ⟨n % 8, by omega⟩ ⟨128 * h.val + k.val, by omega⟩))

/-- The read-out of row `r`, head `h`, value lane `l`: the query against the state after that row's token; a padding row holds zero. -/
def oAt (q f v : Vec Ideal S1x8x768 .f32) (s : Vec Ideal S1x6x128x128 .f32) (r : Fin 8) (h : Fin 6) (l : Fin 128) : EReal :=
  if r.val < 4 then ∑ k : Fin 128, q (ix3 0 r ⟨128 * h.val + k.val, by omega⟩) * stAt f v s h k l (r.val + 1) else 0

/-- The row buffer the point fills: row `r`, lane `128 h + l` holds the read-out `oAt r h l`. -/
def scrAt (q f v : Vec Ideal S1x8x768 .f32) (s : Vec Ideal S1x6x128x128 .f32) : S8x768.Idx → EReal := fun i =>
  oAt q f v s (i 0) ⟨(i 1).val / 128, by have := (i 1).isLt; change _ < 768 at this; omega⟩ ⟨(i 1).val % 128, by omega⟩

/-- The block of the mixer's output: the read-out divided by its root mean square over the head's lanes, times the gain, times the output gate. -/
def outAt (q f v g : Vec Ideal S1x8x768 .f32) (gain : Vec Ideal S1x768 .f32) (s : Vec Ideal S1x6x128x128 .f32) (r : Fin 8) (h : Fin 6) (l : Fin 128) : EReal :=
  oAt q f v s r h l
      * Ideal.rsqrt (Ideal.div (∑ e : Fin 128, oAt q f v s r h e * oAt q f v s r h e) (Ideal.ofBits .f32 0x43000000#32) + Ideal.ofBits .f32 0x358637bd#32)
      * gain (ix2 0 ⟨128 * h.val + l.val, by omega⟩) * g (ix3 0 r ⟨128 * h.val + l.val, by omega⟩)

/-- The read-out depends on its row, head and lane by their values alone. -/
theorem oAt_congr (q f v : Vec Ideal S1x8x768 .f32) (s : Vec Ideal S1x6x128x128 .f32) {r r' : Fin 8} {h h' : Fin 6} {l l' : Fin 128}
    (hr : r.val = r'.val) (hh : h.val = h'.val) (hl : l.val = l'.val) : oAt q f v s r h l = oAt q f v s r' h' l' := by
  obtain rfl := Fin.ext hr
  obtain rfl := Fin.ext hh
  obtain rfl := Fin.ext hl
  rfl

/-- One store of a row of one head over earlier stores. The stores run down the (row, head) pairs in order, so at an index whose pair is
    not above this store's, or beyond all of them, the buffer agrees with `scrAt` as soon as this row does and the earlier stores do at
    the indices this one leaves. -/
theorem scr_step (q f v : Vec Ideal S1x8x768 .f32) (s : Vec Ideal S1x6x128x128 .f32) (i : S8x768.Idx) (o0 o1 : ℕ)
    (inb : ∀ a, (![o0, o1] : Fin 2 → ℕ) a + S1x128.size a ≤ S8x768.size a) (h0 : o0 < 8) (h1 : o1 < 768) (h2 : o1 % 128 = 0)
    (pay : S1x128.Idx → EReal) (L : List (View.Piece (Elt Ideal) S8x768 .f32))
    (hp : ∀ l : Fin 128, pay (ix2 0 l) = oAt q f v s ⟨o0, h0⟩ ⟨o1 / 128, by omega⟩ l)
    (hk : 6 * (i 0).val + (i 1).val / 128 < 6 * o0 + o1 / 128 + 1 ∨ 24 ≤ 6 * (i 0).val + (i 1).val / 128)
    (hrest : 6 * (i 0).val + (i 1).val / 128 < 6 * o0 + o1 / 128 ∨ 24 ≤ 6 * (i 0).val + (i 1).val / 128 → View.canon L i = scrAt q f v s i) :
    View.canon (Val := Elt Ideal) (s := S8x768) (e := .f32) (⟨Rect.unit ![o0, o1] S1x128.size inb, pay⟩ :: L) i = scrAt q f v s i := by
  have hi1 : (i 1).val < 768 := (i 1).isLt
  have hi0 : (i 0).val < 8 := (i 0).isLt
  by_cases hm : (i 0).val = o0 ∧ (i 1).val / 128 = o1 / 128
  · have hx : i = (Rect.unit (s := S8x768) ![o0, o1] S1x128.size inb).emb (ix2 0 ⟨(i 1).val % 128, by omega⟩) := by
      funext a
      fin_cases a
      · refine Fin.ext ?_
        show (i 0).val = _
        rw [Rect.emb_apply]
        show (i 0).val = o0 + 1 * 0
        omega
      · refine Fin.ext ?_
        show (i 1).val = _
        rw [Rect.emb_apply]
        show (i 1).val = o1 + 1 * ((i 1).val % 128)
        omega
    rw [hx, View.canon_cons_emb, ← hx]
    refine (hp _).trans (oAt_congr q f v s ?_ ?_ rfl)
    · exact hm.1.symm
    · exact hm.2.symm
  · rw [View.canon_cons_of_not_mem]
    · exact hrest (by omega)
    · rw [Rect.mem_set_unit]
      intro hall
      have a0 := hall 0
      have a1 := hall 1
      change o0 ≤ (i 0).val ∧ (i 0).val < o0 + 1 at a0
      change o1 ≤ (i 1).val ∧ (i 1).val < o1 + 128 at a1
      exact hm (by omega)

end Cert.KernelIdeal.Block
-- ==== Proof.Point.lean ====
module

public import proofs.«01_k».proof.Proof.Block

@[expose] public section

set_option maxRecDepth 16384

/-! What the recurrence's body leaves at every grid point: the state block after the four tokens, and the block of the mixer's output. -/

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The state block of a grid point is the state after the block's four tokens. -/
theorem state_block (c : Dev nD) (t : Fin cfg0.N) (y : S1x6x128x128.Idx) :
    (outsAt0 m c t).2 y = stAt (iblk m c 1 t) (iblk m c 2 t) (iblk m c 5 t) (y 1) (y 2) (y 3) 4 := by
  unfold outsAt0
  dsimp only
  unfold out0_A_7
  frame_open
  simp (disch := decide) only [↓ View.readCov_skip, ↓ View.readCov_cons_toLoadRect, ↓ View.readCov_fill]
  frame_out
  canon_tiles x h
  all_goals
    open_payloads
    pointwise [stAt]
    blk_point []

set_option maxHeartbeats 2000000 in
/-- The output block of a grid point holds, at row `r` and lane `128 h + l`, the normalised and gated read-out. -/
theorem mixer_block (c : Dev nD) (t : Fin cfg0.N) (y : S1x8x768.Idx) :
    (outsAt0 m c t).1 y = outAt (iblk m c 0 t) (iblk m c 1 t) (iblk m c 2 t) (iblk m c 3 t) (iblk m c 4 t) (iblk m c 5 t) (y 1)
      ⟨(y 2).val / 128, by have := (y 2).isLt; change _ < 768 at this; omega⟩ ⟨(y 2).val % 128, by omega⟩ := by
  unfold outsAt0
  dsimp only
  unfold out0_A_6
  frame_open
  simp (disch := decide) only [↓ View.readCov_skip (s := S6x128x128), ↓ View.readCov_cons_toLoadRect, ↓ View.readCov_fill]
  frame_out
  generalize hL : (List.cons _ _ : List (View.Piece (Elt Ideal) S8x768 .f32)) = L
  have hC : View.canon L = scrAt (iblk m c 0 t) (iblk m c 1 t) (iblk m c 2 t) (iblk m c 5 t) := by
    funext i
    subst hL
    have hk : 6 * (i 0).val + (i 1).val / 128 < 24 ∨ 24 ≤ 6 * (i 0).val + (i 1).val / 128 := by omega
    iterate 24
      refine scr_step _ _ _ _ i _ _ (by decide) (by decide) (by decide) (by decide) _ _ (fun l => ?_) (by omega) fun hk => ?_
      · open_payloads
        pointwise [oAt, stAt]
    rw [View.canon_cons_unit_lit _ _ _ (by decide)]
    unfold scrAt oAt
    rw [if_neg (by have hi1 : (i 1).val < 768 := (i 1).isLt; omega)]
    open_payloads
    pointwise
  clear hL
  simp only [View.readCov_eq_canon', hC]
  canon_tiles x h
  all_goals
    unfold outAt
    open_payloads
    pointwise [scrAt]
    refine congrArg₂ (fun a b : EReal => a * b) (congrArg₂ (fun a b : EReal => a * b)
      (congrArg₂ (fun a b : EReal => a * b) (oAt_congr _ _ _ _ ?_ ?_ ?_) (congrArg (fun z : EReal => Ideal.rsqrt (Ideal.div z _ + _))
        (Finset.sum_congr rfl fun e _ => congrArg (fun z : EReal => z * z) (oAt_congr _ _ _ _ ?_ ?_ ?_)))) ?_) ?_
    all_goals first | omega | (dsimp only; omega) | blk_ext []

end Cert.KernelIdeal.Block
-- ==== Proof.Recurrence.lean ====
module

public import Idealize.ShloMosaic.Lib.Pointwise

@[expose] public section

set_option maxRecDepth 16384

/-! The gated recurrence over four tokens and its closed form with cumulated log gates: equal where every number is finite and every gate is positive. -/

noncomputable section

namespace Cert.Recurrence

open Idealize.ShloMosaic

/-- The recurrence at one key lane and one value lane after `n` tokens: each token multiplies the state by its gate and adds
    the value weighted by one minus the gate. -/
def st (f v : Fin 4 → EReal) (s : EReal) : ℕ → EReal
  | 0 => s
  | n + 1 => st f v s n * f ⟨n % 4, by omega⟩ + v ⟨n % 4, by omega⟩ * (1 - f ⟨n % 4, by omega⟩)

/-- The sum of the log gates of the tokens up to `t`. -/
def cumL (f : Fin 4 → EReal) (t : Fin 4) : EReal := ∑ s : Fin 4, if s ≤ t then Ideal.log (f s) else 0

/-- The recurrence over the real numbers. -/
def stR (f v : Fin 4 → ℝ) (s : ℝ) : ℕ → ℝ
  | 0 => s
  | n + 1 => stR f v s n * f ⟨n % 4, by omega⟩ + v ⟨n % 4, by omega⟩ * (1 - f ⟨n % 4, by omega⟩)

/-- The recurrence on finite numbers stays finite and is the one over the reals. -/
theorem st_coe (f v : Fin 4 → ℝ) (s : ℝ) (n : ℕ) :
    st (fun i => (f i : EReal)) (fun i => (v i : EReal)) (s : EReal) n = ((stR f v s n : ℝ) : EReal) := by
  induction n with
  | zero => rfl
  | succ n ih => simp only [st, stR, ih, EReal.coe_add, EReal.coe_mul, EReal.coe_sub, EReal.coe_one]

/-- A finite sum of finite numbers is finite. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The log of a positive real. -/
theorem log_coe (r : ℝ) (h : 0 < r) : Ideal.log (r : EReal) = (Real.log r : EReal) := by
  show (if r ≤ 0 then ⊥ else (Real.log r : EReal)) = _
  rw [if_neg (not_le.2 h)]

/-- The cumulated log gates of positive real gates. -/
theorem cumL_coe (f : Fin 4 → ℝ) (hf : ∀ i, 0 < f i) (t : Fin 4) :
    cumL (fun i => (f i : EReal)) t = ((∑ s : Fin 4, if s ≤ t then Real.log (f s) else 0 : ℝ) : EReal) := by
  unfold cumL
  rw [coe_sum]
  refine Finset.sum_congr rfl fun s _ => ?_
  split
  · exact log_coe _ (hf s)
  · rfl

/-- The exponential of the cumulated log gates is the product of the gates. -/
theorem exp_cumL (f : Fin 4 → ℝ) (hf : ∀ i, 0 < f i) (t : Fin 4) :
    Ideal.exp (cumL (fun i => (f i : EReal)) t) = ((∏ s : Fin 4, if s ≤ t then f s else 1 : ℝ) : EReal) := by
  rw [cumL_coe f hf]
  show ((Real.exp _ : ℝ) : EReal) = _
  rw [Real.exp_sum]
  refine congrArg _ (Finset.prod_congr rfl fun s _ => ?_)
  split
  · exact Real.exp_log (hf s)
  · exact Real.exp_zero

/-- The decay between two tokens: the product of the gates after the earlier one, up to the later one; zero in the wrong order. -/
def decay (f : Fin 4 → ℝ) (t i : Fin 4) : ℝ := if i ≤ t then ∏ s : Fin 4, (if i < s ∧ s ≤ t then f s else 1) else 0

/-- The exponential of the difference of two cumulated log gates, masked to keys that do not come later, is the decay. -/
theorem exp_masked (f : Fin 4 → ℝ) (hf : ∀ i, 0 < f i) (t i : Fin 4) :
    Ideal.exp (if i ≤ t then cumL (fun j => (f j : EReal)) t - cumL (fun j => (f j : EReal)) i else ⊥) = ((decay f t i : ℝ) : EReal) := by
  unfold decay
  split
  · next h =>
    rw [cumL_coe f hf, cumL_coe f hf, ← EReal.coe_sub, ← Finset.sum_sub_distrib]
    show ((Real.exp _ : ℝ) : EReal) = _
    rw [Real.exp_sum]
    refine congrArg _ (Finset.prod_congr rfl fun s _ => ?_)
    by_cases h1 : s ≤ i
    · rw [if_pos (h1.trans h), if_pos h1, if_neg (fun e => absurd e.1 (not_lt.2 h1)), sub_self, Real.exp_zero]
    · by_cases h2 : s ≤ t
      · rw [if_pos h2, if_neg h1, if_pos ⟨not_le.1 h1, h2⟩, sub_zero, Real.exp_log (hf s)]
      · rw [if_neg h2, if_neg h1, if_neg (fun e => h2 e.2), sub_zero, Real.exp_zero]
  · rfl

/-- The recurrence after token `t` in closed form, over the reals. -/
theorem stR_closed (f v : Fin 4 → ℝ) (s : ℝ) (t : Fin 4) :
    (∏ i : Fin 4, if i ≤ t then f i else 1) * s + ∑ i : Fin 4, (1 - f i) * decay f t i * v i = stR f v s (t.val + 1) := by
  fin_cases t <;> simp [Fin.sum_univ_four, Fin.prod_univ_four, decay, stR] <;> ring

/-- The state after the four tokens: the chunk's closed form is the recurrence. -/
theorem state_closed (f v : Fin 4 → EReal) (s : EReal) (hf : ∀ i, ∃ r : ℝ, 0 < r ∧ f i = r) (hv : ∀ i, ∃ r : ℝ, v i = r) (hs : ∃ r : ℝ, s = r) :
    Ideal.exp (cumL f 3) * s + ∑ i : Fin 4, (1 - f i) * Ideal.exp (cumL f 3 - cumL f i) * v i = st f v s 4 := by
  choose F hF hfF using hf
  choose V hV using hv
  obtain ⟨S, rfl⟩ := hs
  obtain rfl : f = fun i => (F i : EReal) := funext hfF
  obtain rfl : v = fun i => (V i : EReal) := funext hV
  have hd : ∀ i : Fin 4, Ideal.exp (cumL (fun i => (F i : EReal)) 3 - cumL (fun i => (F i : EReal)) i) = ((decay F 3 i : ℝ) : EReal) := by
    intro i
    rw [← exp_masked F hF 3 i, if_pos (by omega)]
  rw [st_coe, exp_cumL F hF]
  simp only [hd, ← EReal.coe_one, ← EReal.coe_sub, ← EReal.coe_mul, ← coe_sum, ← EReal.coe_add]
  exact congrArg _ (stR_closed F V S 3)

/-- The read-out of token `t`: the carried part plus the masked scores against the values is the query against the recurrence's
    state after that token. -/
theorem read_closed (q f : Fin 4 → Fin 128 → EReal) (v : Fin 4 → EReal) (s : Fin 128 → EReal) (t : Fin 4) (hq : ∀ i k, ∃ r : ℝ, q i k = r)
    (hf : ∀ i k, ∃ r : ℝ, 0 < r ∧ f i k = r) (hv : ∀ i, ∃ r : ℝ, v i = r) (hs : ∀ k, ∃ r : ℝ, s k = r) :
    (∑ k : Fin 128, q t k * Ideal.exp (cumL (fun i => f i k) t) * s k)
      + ∑ i : Fin 4, (∑ k : Fin 128, q t k * (1 - f i k) * Ideal.exp (if i ≤ t then cumL (fun j => f j k) t - cumL (fun j => f j k) i else ⊥)) * v i
      = ∑ k : Fin 128, q t k * st (fun i => f i k) v (s k) (t.val + 1) := by
  choose Q hQ using hq
  choose F hF hfF using hf
  choose V hV using hv
  choose S hS using hs
  obtain rfl : q = fun i k => (Q i k : EReal) := funext fun i => funext (hQ i)
  obtain rfl : f = fun i k => (F i k : EReal) := funext fun i => funext (hfF i)
  obtain rfl : v = fun i => (V i : EReal) := funext hV
  obtain rfl : s = fun i => (S i : EReal) := funext hS
  have h1 : ∀ k : Fin 128, Ideal.exp (cumL (fun i => (F i k : EReal)) t) = _ := fun k => exp_cumL (fun i => F i k) (fun i => hF i k) t
  have h2 : ∀ (i : Fin 4) (k : Fin 128), _ = _ := fun i k => exp_masked (fun i => F i k) (fun i => hF i k) t i
  have h3 : ∀ k : Fin 128, _ = _ := fun k => st_coe (fun i => F i k) V (S k) (t.val + 1)
  simp only [h1, h2, h3, ← EReal.coe_one, ← EReal.coe_sub, ← EReal.coe_mul, ← coe_sum, ← EReal.coe_add]
  refine congrArg _ ?_
  simp only [Finset.sum_mul]
  rw [Finset.sum_comm, ← Finset.sum_add_distrib]
  refine Finset.sum_congr rfl fun k _ => ?_
  rw [← stR_closed (fun i => F i k) V (S k) t, mul_add, Finset.mul_sum]
  exact congrArg₂ _ (by ring) (Finset.sum_congr rfl fun i _ => by ring)

end Cert.Recurrence
-- ==== Proof.Array.lean ====
module

public import proofs.«01_k».proof.Proof.Point
public import proofs.«01_k».proof.Proof.Recurrence

@[expose] public section

set_option maxRecDepth 16384

/-! The kernel's two result arrays as formulas of its arguments. -/

noncomputable section

namespace Cert.KernelIdeal.Arrays

open Cert.KernelIdeal Cert.KernelIdeal.Gen Idealize.ShloMosaic Idealize.ShloMosaic.TcCoe Idealize.SL.Sem

open Cert.KernelIdeal.Block Cert.Recurrence Cert.KernelIdeal.Value

/-- Where each window's block lies at a point: sequence `t / 4`, head group `t % 4`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] ∧ win0_4.index t = ![0, t.val % 4]
    ∧ win0_5.index t = ![t.val / 4, t.val % 4, 0, 0] ∧ win0_6.index t = ![t.val / 4, 0, t.val % 4] ∧ win0_7.index t = ![t.val / 4, t.val % 4, 0, 0] :=
  (by decide +kernel : ∀ t : Fin grid0.N, _)

/-- An array of four token rows padded to eight. -/
def padRows (x : FVec Ideal S8x4x3072 .f32) : FVec Ideal S8x8x3072 .f32 :=
  pad S8x8x3072 ![0, 0, 0] ![0, 4, 0] ![0, 0, 0] x (sitofp .f32 (constantI S_ 32 0#32)) pads_S8x4x3072_S8x8x3072_000_040_000 h_S_

/-- The padded array at a token row. -/
theorem padRows_at (x : FVec Ideal S8x4x3072 .f32) (b r : Fin 8) (j : Fin 3072) (hr : r.val < 4) : padRows x (ix3 b r j) = x (ix3 b ⟨r.val, hr⟩ j) := by
  pointwise [padRows]
  rw [dif_pos hr]

/-- The region finds the queries padded. -/
theorem entry_q (m : (ℓ : Loc nD τ sig) → Buf (Elt Ideal) ℓ) (c : Dev nD) : V m c main_v0 = padRows (m ((c.tc : Thread nD τ).loc main_arg0)) := by
  unfold padRows V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.unary, StableHlo.TRef.binary, StableHlo.TRef.toBuf, StableHlo.TRef.ofBuf, cast_eq]
  after_results_simp <;> rfl

/-- The queries a point reads at its token rows. -/
theorem read_q (m : (ℓ : Loc nD τ sig) → Buf (Elt Ideal) ℓ) (c : Dev nD) (t : Fin cfg0.N) (hN : t.val < 32) (r : Fin 8) (hr : r.val < 4) (j : Fin 768) :
    iblk m c 0 t (ix3 0 r j) = m ((c.tc : Thread nD τ).loc main_arg0) (ix3 ⟨t.val / 4, by omega⟩ ⟨r.val, hr⟩ ⟨768 * (t.val % 4) + j.val, by omega⟩) := by
  refine Eq.trans ?_ (padRows_at _ _ r _ hr)
  show V m c main_v0 _ = _
  rw [entry_q]
  blk_ext [idx t]

/-- The region finds the gates padded. -/
theorem entry_f (m : (ℓ : Loc nD τ sig) → Buf (Elt Ideal) ℓ) (c : Dev nD) : V m c main_v1 = padRows (m ((c.tc : Thread nD τ).loc main_arg1)) := by
  unfold padRows V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.unary, StableHlo.TRef.binary, StableHlo.TRef.toBuf, StableHlo.TRef.ofBuf, cast_eq]
  after_results_simp <;> rfl

/-- The gates a point reads at its token rows. -/
theorem read_f (m : (ℓ : Loc nD τ sig) → Buf (Elt Ideal) ℓ) (c : Dev nD) (t : Fin cfg0.N) (hN : t.val < 32) (r : Fin 8) (hr : r.val < 4) (j : Fin 768) :
    iblk m c 1 t (ix3 0 r j) = m ((c.tc : Thread nD τ).loc main_arg1) (ix3 ⟨t.val / 4, by omega⟩ ⟨r.val, hr⟩ ⟨768 * (t.val % 4) + j.val, by omega⟩) := by
  refine Eq.trans ?_ (padRows_at _ _ r _ hr)
  show V m c main_v1 _ = _
  rw [entry_f]
  blk_ext [idx t]

/-- The region finds the values padded. -/
theorem entry_v (m : (ℓ : Loc nD τ sig) → Buf (Elt Ideal) ℓ) (c : Dev nD) : V m c main_v2 = padRows (m ((c.tc : Thread nD τ).loc main_arg2)) := by
  unfold padRows V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.unary, StableHlo.TRef.binary, StableHlo.TRef.toBuf, StableHlo.TRef.ofBuf, cast_eq]
  after_results_simp <;> rfl

/-- The values a point reads at its token rows. -/
theorem read_v (m : (ℓ : Loc nD τ sig) → Buf (Elt Ideal) ℓ) (c : Dev nD) (t : Fin cfg0.N) (hN : t.val < 32) (r : Fin 8) (hr : r.val < 4) (j : Fin 768) :
    iblk m c 2 t (ix3 0 r j) = m ((c.tc : Thread nD τ).loc main_arg2) (ix3 ⟨t.val / 4, by omega⟩ ⟨r.val, hr⟩ ⟨768 * (t.val % 4) + j.val, by omega⟩) := by
  refine Eq.trans ?_ (padRows_at _ _ r _ hr)
  show V m c main_v2 _ = _
  rw [entry_v]
  blk_ext [idx t]

/-- The region finds the output gates padded. -/
theorem entry_g (m : (ℓ : Loc nD τ sig) → Buf (Elt Ideal) ℓ) (c : Dev nD) : V m c main_v3 = padRows (m ((c.tc : Thread nD τ).loc main_arg3)) := by
  unfold padRows V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.unary, StableHlo.TRef.binary, StableHlo.TRef.toBuf, StableHlo.TRef.ofBuf, cast_eq]
  after_results_simp <;> rfl

/-- The output gates a point reads at its token rows. -/
theorem read_g (m : (ℓ : Loc nD τ sig) → Buf (Elt Ideal) ℓ) (c : Dev nD) (t : Fin cfg0.N) (hN : t.val < 32) (r : Fin 8) (hr : r.val < 4) (j : Fin 768) :
    iblk m c 3 t (ix3 0 r j) = m ((c.tc : Thread nD τ).loc main_arg3) (ix3 ⟨t.val / 4, by omega⟩ ⟨r.val, hr⟩ ⟨768 * (t.val % 4) + j.val, by omega⟩) := by
  refine Eq.trans ?_ (padRows_at _ _ r _ hr)
  show V m c main_v3 _ = _
  rw [entry_g]
  blk_ext [idx t]

/-- The region finds the gain as one row. -/
theorem entry_gain (m : (ℓ : Loc nD τ sig) → Buf (Elt Ideal) ℓ) (c : Dev nD) : V m c main_v4 = shapeCast S1x3072 (m ((c.tc : Thread nD τ).loc main_arg4)) shapeCasts_S3072_S1x3072 := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.unary, StableHlo.TRef.binary, StableHlo.TRef.toBuf, StableHlo.TRef.ofBuf, cast_eq]
  after_results_simp <;> rfl

/-- The gain as one row, read at a lane. -/
theorem gainRow_at (x : FVec Ideal S3072 .f32) (j : Fin 3072) : (shapeCast S1x3072 x shapeCasts_S3072_S1x3072 : FVec Ideal S1x3072 .f32) (ix2 0 j) = x (ix1 j) := by
  pointwise

/-- The gain a point reads. -/
theorem read_gain (m : (ℓ : Loc nD τ sig) → Buf (Elt Ideal) ℓ) (c : Dev nD) (t : Fin cfg0.N) (hN : t.val < 32) (j : Fin 768) :
    iblk m c 4 t (ix2 0 j) = m ((c.tc : Thread nD τ).loc main_arg4) (ix1 ⟨768 * (t.val % 4) + j.val, by omega⟩) := by
  refine Eq.trans ?_ (gainRow_at _ _)
  show V m c main_v4 _ = _
  rw [entry_gain]
  blk_ext [idx t]

/-- The carried state a point reads. -/
theorem read_s (m : (ℓ : Loc nD τ sig) → Buf (Elt Ideal) ℓ) (c : Dev nD) (t : Fin cfg0.N) (hN : t.val < 32) (h : Fin 6) (k l : Fin 128) :
    iblk m c 5 t (ix4 0 h k l) = m ((c.tc : Thread nD τ).loc main_arg5) (ix4 ⟨t.val / 4, by omega⟩ ⟨6 * (t.val % 4) + h.val, by omega⟩ k l) := by
  show V m c main_arg5 _ = _
  rw [V_main_arg5]
  blk_ext [idx t]

/-- The recurrence of sequence `b`, head `h`, key lane `k`, value lane `l` after `n` tokens. -/
def stG (f v : FVec Ideal S8x4x3072 .f32) (s : FVec Ideal S8x24x128x128 .f32) (b : Fin 8) (h : Fin 24) (k l : Fin 128) (n : ℕ) : EReal :=
  st (fun i => f (ix3 b i ⟨h.val * 128 + k.val, by omega⟩)) (fun i => v (ix3 b i ⟨h.val * 128 + l.val, by omega⟩)) (s (ix4 b h k l)) n

/-- The read-out of token `t`: the query against the recurrence after that token. -/
def rdG (q f v : FVec Ideal S8x4x3072 .f32) (s : FVec Ideal S8x24x128x128 .f32) (b : Fin 8) (h : Fin 24) (t : Fin 4) (l : Fin 128) : EReal :=
  ∑ k : Fin 128, q (ix3 b t ⟨h.val * 128 + k.val, by omega⟩) * stG f v s b h k l (t.val + 1)

/-- The mixer's output: the read-outs normalised over their head's lanes, scaled and gated; the padding rows hold zero. -/
def mixG (q f v g : FVec Ideal S8x4x3072 .f32) (gain : FVec Ideal S3072 .f32) (s : FVec Ideal S8x24x128x128 .f32) (b t : Fin 8) (h : Fin 24) (l : Fin 128) : EReal :=
  if ht : t.val < 4 then rdG q f v s b h ⟨t.val, ht⟩ l * Ideal.rsqrt (Ideal.div (∑ e : Fin 128, rdG q f v s b h ⟨t.val, ht⟩ e * rdG q f v s b h ⟨t.val, ht⟩ e) (Ideal.ofBits .f32 0x43000000#32)
    + Ideal.ofBits .f32 0x358637BD#32) * gain (ix1 ⟨h.val * 128 + l.val, by omega⟩) * g (ix3 b ⟨t.val, ht⟩ ⟨h.val * 128 + l.val, by omega⟩) else 0

section
variable (m : (ℓ : Loc nD τ sig) → Buf (Elt Ideal) ℓ) (c : Dev nD) (t : Fin cfg0.N) (hN : t.val < 32)

/-- A block's recurrence is the arrays' recurrence of its sequence and head. -/
theorem stAt_eq (h : Fin 6) (k l : Fin 128) (n : ℕ) (hn : n ≤ 4) :
    stAt (iblk m c 1 t) (iblk m c 2 t) (iblk m c 5 t) h k l n
      = stG (m ((c.tc : Thread nD τ).loc main_arg1)) (m ((c.tc : Thread nD τ).loc main_arg2)) (m ((c.tc : Thread nD τ).loc main_arg5)) ⟨t.val / 4, by omega⟩ ⟨6 * (t.val % 4) + h.val, by omega⟩ k l n := by
  induction n with
  | zero => exact read_s m c t hN h k l
  | succ n ih =>
    have h8 : n % 8 = n := Nat.mod_eq_of_lt (by omega)
    have h4 : n % 4 = n := Nat.mod_eq_of_lt (by omega)
    have e : ∀ x : Fin 128, 768 * (t.val % 4) + (128 * h.val + x.val) = (6 * (t.val % 4) + h.val) * 128 + x.val := by intro x; omega
    simp only [stAt, ih (by omega), stG, st]
    rw [read_f m c t hN _ (by dsimp only; omega), read_v m c t hN _ (by dsimp only; omega)]
    simp only [h8, h4, e]

/-- A block's read-out is the arrays' read-out of its sequence and head. -/
theorem oAt_eq (r : Fin 8) (hr : r.val < 4) (h : Fin 6) (l : Fin 128) :
    oAt (iblk m c 0 t) (iblk m c 1 t) (iblk m c 2 t) (iblk m c 5 t) r h l
      = rdG (m ((c.tc : Thread nD τ).loc main_arg0)) (m ((c.tc : Thread nD τ).loc main_arg1)) (m ((c.tc : Thread nD τ).loc main_arg2)) (m ((c.tc : Thread nD τ).loc main_arg5)) ⟨t.val / 4, by omega⟩ ⟨6 * (t.val % 4) + h.val, by omega⟩ ⟨r.val, hr⟩ l := by
  have e : ∀ x : Fin 128, 768 * (t.val % 4) + (128 * h.val + x.val) = (6 * (t.val % 4) + h.val) * 128 + x.val := by intro x; omega
  unfold oAt rdG
  rw [if_pos hr]
  refine Finset.sum_congr rfl fun k _ => ?_
  rw [stAt_eq m c t hN h k l _ (by omega), read_q m c t hN r hr]
  simp only [e]

/-- A block's mixer output is the arrays' mixer output of its sequence and head. -/
theorem outAt_eq (r : Fin 8) (h : Fin 6) (l : Fin 128) :
    outAt (iblk m c 0 t) (iblk m c 1 t) (iblk m c 2 t) (iblk m c 3 t) (iblk m c 4 t) (iblk m c 5 t) r h l
      = mixG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨t.val / 4, by omega⟩ r ⟨6 * (t.val % 4) + h.val, by omega⟩ l := by
  have e : ∀ x : Fin 128, 768 * (t.val % 4) + (128 * h.val + x.val) = (6 * (t.val % 4) + h.val) * 128 + x.val := by intro x; omega
  unfold outAt mixG
  split
  · next hr =>
    simp only [oAt_eq m c t hN r hr, read_gain m c t hN, read_g m c t hN r hr, e]
  · next hr =>
    rw [show oAt (iblk m c 0 t) (iblk m c 1 t) (iblk m c 2 t) (iblk m c 5 t) r h l = 0 from if_neg hr, zero_mul, zero_mul, zero_mul]

end

/-- The state array after the run. -/
theorem final_state (m : (ℓ : Loc nD τ sig) → Buf (Elt Ideal) ℓ) (c : Dev nD) :
    (dats m 0 c).arrAt 7 cfg0.N = fun y : S8x24x128x128.Idx => stG (m ((c.tc : Thread nD τ).loc main_arg1)) (m ((c.tc : Thread nD τ).loc main_arg2)) (m ((c.tc : Thread nD τ).loc main_arg5)) (y 0) (y 1) (y 2) (y 3) 4 := by
  refine (dats m 0 c).arrAt_eq_of_covers 7 _ (by decide +kernel) fun t hf y => ?_
  have hN : t.val < 32 := t.isLt
  blk_simp
  rw [after0_7]
  refine ((state_block m c t y).trans (stAt_eq m c t hN _ _ _ 4 le_rfl)).trans ?_
  have y0 : (y 0).val < 1 := (y 0).isLt
  congr 1 <;> apply Fin.ext <;> blk_simp [idx t] <;> simp <;> try omega

/-- The mixer's output array after the run. -/
theorem final_mixer (m : (ℓ : Loc nD τ sig) → Buf (Elt Ideal) ℓ) (c : Dev nD) :
    (dats m 0 c).arrAt 6 cfg0.N = fun y : S8x8x3072.Idx => mixG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (y 0) (y 1) ⟨(y 2).val / 128, by have := (y 2).isLt; simp at this; omega⟩ ⟨(y 2).val % 128, by omega⟩ := by
  refine (dats m 0 c).arrAt_eq_of_covers 6 _ (by decide +kernel) fun t hf y => ?_
  have hN : t.val < 32 := t.isLt
  blk_simp
  rw [after0_6]
  refine ((mixer_block m c t y).trans (outAt_eq m c t hN _ _ _)).trans ?_
  have y0 : (y 0).val < 1 := (y 0).isLt
  have y2 : (y 2).val < 768 := (y 2).isLt
  congr 1 <;> apply Fin.ext <;> blk_simp [idx t] <;> simp <;> try omega

end Cert.KernelIdeal.Arrays
-- ==== Proof.RefTerms.lean ====
module

public import proofs.«01_k».proof.Proof.Gen.ReferenceIdeal.Run
public import Idealize.ShloMosaic.Lib.Pointwise

@[expose] public section

set_option maxRecDepth 16384

/-! The two arrays the reference computes, cut into named steps: the running sums of the log gates, the scores inside the chunk, the read-outs, the new state. -/

noncomputable section

namespace Cert.ReferenceIdeal.Math

open Cert.ReferenceIdeal Cert.ReferenceIdeal.Gen Idealize.ShloMosaic Idealize.ShloMosaic.TcCoe Idealize.SL.Sem
open Idealize.ShloMosaic.Pipeline (Dat)

/-- The log of each gate, with the heads in front of the tokens. -/
def logGate (f : FVec Ideal S8x4x3072 .f32) : FVec Ideal S8x24x4x128 .f32 :=
  transpose S8x24x4x128 [0, 2, 1, 3] (shapeCast _ (Host.log f) shapeCasts_S8x4x3072_S8x4x24x128) transposes_S8x4x24x128_S8x24x4x128_0_2_1_3

/-- The running sums of the log gates over the tokens. -/
def cum (f : FVec Ideal S8x4x3072 .f32) : FVec Ideal S8x24x4x128 .f32 :=
  Host.reduceWindowAdd ![1, 1, 4, 1] ![1, 1, 1, 1] ![0, 0, 3, 0] ![0, 0, 0, 0] (logGate f) (broadcastInDim S_ ![] bcast_S_S_ (constant S_ .f32 0x00000000#32)) reduceWindows_S8x24x4x128_S8x24x4x128_w1s1p0_0_w1s1p0_0_w4s1p3_0_w1s1p0_0 h_S_

/-- The decayed scores of each pair of tokens of the chunk. -/
def scores (q f : FVec Ideal S8x4x3072 .f32) : FVec Ideal S8x24x4x4 .f32 :=
  Host.reduceAdd (mulf (mulf (broadcastInDim S8x24x4x4x128 ![0, 1, 2, 3, 4] bcast_S8x24x4x1x128_S8x24x4x4x128_0_1_2_3_4 (broadcastInDim S8x24x4x1x128 ![0, 1, 2, 4] bcast_S8x24x4x128_S8x24x4x1x128_0_1_2_4 (transpose S8x24x4x128 [0, 2, 1, 3] (shapeCast _ q shapeCasts_S8x4x3072_S8x4x24x128) transposes_S8x4x24x128_S8x24x4x128_0_2_1_3))) (broadcastInDim S8x24x4x4x128 ![0, 1, 2, 3, 4] bcast_S8x24x1x4x128_S8x24x4x4x128_0_1_2_3_4 (broadcastInDim S8x24x1x4x128 ![0, 1, 3, 4] bcast_S8x24x4x128_S8x24x1x4x128_0_1_3_4 (transpose S8x24x4x128 [0, 2, 1, 3] (shapeCast _ (subf (broadcastInDim S8x4x3072 ![] bcast_S_S8x4x3072 (constant S_ .f32 0x3F800000#32)) f) shapeCasts_S8x4x3072_S8x4x24x128) transposes_S8x4x24x128_S8x24x4x128_0_2_1_3)))) (Host.exp (select (broadcastInDim S8x24x4x4x128 ![2, 3, 4] bcast_S4x4x1_S8x24x4x4x128_2_3_4 (broadcastInDim S4x4x1 ![0, 1] bcast_S4x4_S4x4x1_0_1 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))))) (subf (broadcastInDim S8x24x4x4x128 ![0, 1, 2, 3, 4] bcast_S8x24x4x1x128_S8x24x4x4x128_0_1_2_3_4 (broadcastInDim S8x24x4x1x128 ![0, 1, 2, 4] bcast_S8x24x4x128_S8x24x4x1x128_0_1_2_4 (cum f))) (broadcastInDim S8x24x4x4x128 ![0, 1, 2, 3, 4] bcast_S8x24x1x4x128_S8x24x4x4x128_0_1_2_3_4 (broadcastInDim S8x24x1x4x128 ![0, 1, 3, 4] bcast_S8x24x4x128_S8x24x1x4x128_0_1_3_4 (cum f)))) (broadcastInDim S8x24x4x4x128 ![] bcast_S_S8x24x4x4x128 (id (constant S_ .f32 0xFF800000#32)))))) (constant S_ .f32 0x00000000#32) reducesTo_S8x24x4x4x128_S8x24x4x4_d4 h_S_

/-- The read-outs: the part from the carried state and the part from the chunk's own tokens. -/
def readOut (q f v : FVec Ideal S8x4x3072 .f32) (s0 : FVec Ideal S8x24x128x128 .f32) : FVec Ideal S8x24x4x128 .f32 :=
  addf (Host.dotGeneral dot_S8x24x4x128_S8x24x128x128_S8x24x4x128_3_2_2_3_01_01 none (mulf (transpose S8x24x4x128 [0, 2, 1, 3] (shapeCast _ q shapeCasts_S8x4x3072_S8x4x24x128) transposes_S8x4x24x128_S8x24x4x128_0_2_1_3) (Host.exp (cum f))) s0) (Host.dotGeneral dot_S8x24x4x4_S8x24x4x128_S8x24x4x128_3_2_2_3_01_01 none (scores q f) (transpose S8x24x4x128 [0, 2, 1, 3] (shapeCast _ v shapeCasts_S8x4x3072_S8x4x24x128) transposes_S8x4x24x128_S8x24x4x128_0_2_1_3))

/-- The mixer's output, eight rows per sequence of which the last four are zero. -/
def mixer (q f v g : FVec Ideal S8x4x3072 .f32) (gain : FVec Ideal S3072 .f32) (s0 : FVec Ideal S8x24x128x128 .f32) : FVec Ideal S8x8x3072 .bf16 :=
  pad S8x8x3072 ![0, 0, 0] ![0, 4, 0] ![0, 0, 0] (truncf .bf16 (mulf (shapeCast _ (mulf (mulf (transpose S8x4x24x128 [0, 2, 1, 3] (readOut q f v s0) transposes_S8x24x4x128_S8x4x24x128_0_2_1_3) (broadcastInDim S8x4x24x128 ![0, 1, 2, 3] bcast_S8x4x24x1_S8x4x24x128_0_1_2_3 (Host.rsqrt (addf (Host.divf (broadcastInDim S8x4x24x1 ![0, 1, 2] bcast_S8x4x24_S8x4x24x1_0_1_2 (Host.reduceAdd (mulf (transpose S8x4x24x128 [0, 2, 1, 3] (readOut q f v s0) transposes_S8x24x4x128_S8x4x24x128_0_2_1_3) (transpose S8x4x24x128 [0, 2, 1, 3] (readOut q f v s0) transposes_S8x24x4x128_S8x4x24x128_0_2_1_3)) (constant S_ .f32 0x00000000#32) reducesTo_S8x4x24x128_S8x4x24_d3 h_S_)) (broadcastInDim S8x4x24x1 ![] bcast_S_S8x4x24x1 (constant S_ .f32 0x43000000#32))) (broadcastInDim S8x4x24x1 ![] bcast_S_S8x4x24x1 (constant S_ .f32 0x358637BD#32)))))) (broadcastInDim S8x4x24x128 ![0, 1, 2, 3] bcast_S1x1x24x128_S8x4x24x128_0_1_2_3 (broadcastInDim S1x1x24x128 ![2, 3] bcast_S24x128_S1x1x24x128_2_3 (shapeCast _ gain shapeCasts_S3072_S24x128)))) shapeCasts_S8x4x24x128_S8x4x3072) g) bitsLt_bf16_f32) (sitofp .bf16 (constantI S_ 32 0#32)) pads_S8x4x3072_S8x8x3072_000_040_000 h_S_

/-- The state after the chunk. -/
def newState (f v : FVec Ideal S8x4x3072 .f32) (s0 : FVec Ideal S8x24x128x128 .f32) : FVec Ideal S8x24x128x128 .f32 :=
  addf (mulf (broadcastInDim S8x24x128x128 ![0, 1, 2, 3] bcast_S8x24x128x1_S8x24x128x128_0_1_2_3 (broadcastInDim S8x24x128x1 ![0, 1, 2] bcast_S8x24x128_S8x24x128x1_0_1_2 (Host.exp (shapeCast _ (extractStridedSlice S8x24x1x128 ![0, 0, 3, 0] (cum f) slices_S8x24x4x128_S8x24x1x128_0_0_3_0) shapeCasts_S8x24x1x128_S8x24x128)))) s0) (Host.dotGeneral dot_S8x24x4x128_S8x24x4x128_S8x24x128x128_2_2_3_3_01_01 none (mulf (transpose S8x24x4x128 [0, 2, 1, 3] (shapeCast _ (subf (broadcastInDim S8x4x3072 ![] bcast_S_S8x4x3072 (constant S_ .f32 0x3F800000#32)) f) shapeCasts_S8x4x3072_S8x4x24x128) transposes_S8x4x24x128_S8x24x4x128_0_2_1_3) (Host.exp (subf (broadcastInDim S8x24x4x128 ![0, 1, 2, 3] bcast_S8x24x1x128_S8x24x4x128_0_1_2_3 (broadcastInDim S8x24x1x128 ![0, 1, 3] bcast_S8x24x128_S8x24x1x128_0_1_3 (shapeCast _ (extractStridedSlice S8x24x1x128 ![0, 0, 3, 0] (cum f) slices_S8x24x4x128_S8x24x1x128_0_0_3_0) shapeCasts_S8x24x1x128_S8x24x128))) (cum f)))) (transpose S8x24x4x128 [0, 2, 1, 3] (shapeCast _ v shapeCasts_S8x4x3072_S8x4x24x128) transposes_S8x4x24x128_S8x24x4x128_0_2_1_3))

/-- The reference's run, with its two results named by the steps above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = mixer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v45) = newState (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.ReferenceIdeal.Math
-- ==== Proof.RefRead.lean ====
module

public import proofs.«01_k».proof.Proof.RefTerms

@[expose] public section

set_option maxRecDepth 16384

/-! The reference's steps read at an index. -/

noncomputable section

namespace Cert.ReferenceIdeal.Math

open Cert.ReferenceIdeal Cert.ReferenceIdeal.Gen Idealize.ShloMosaic Idealize.ShloMosaic.TcCoe Idealize.SL.Sem
open Idealize.ShloMosaic.Pipeline (Dat)

/-- The running sum at token `t`: the log gates of the tokens up to `t`. -/
theorem cum_at (f : FVec Ideal S8x4x3072 .f32) (b : Fin 8) (h : Fin 24) (t : Fin 4) (k : Fin 128) :
    cum f (ix4 b h t k) = ∑ s : Fin 4, if s ≤ t then Ideal.log (f (ix3 b s ⟨h.val * 128 + k.val, by omega⟩)) else 0 := by
  have hL : ∀ s : Fin 4, logGate f (ix4 b h s k) = Ideal.log (f (ix3 b s ⟨h.val * 128 + k.val, by omega⟩)) := by
    intro s
    pointwise [logGate]
  have hz : (broadcastInDim S_ ![] bcast_S_S_ (constant S_ .f32 0x00000000#32) : FVec Ideal S_ .f32) (Shape.Idx.first h_S_) = (0 : EReal) := by
    rw [ValueIdx.eq_ix0 (Shape.Idx.first h_S_)]
    pointwise []
  have h0 : ∀ n : Fin (Shape.numel ⟨4, ![1, 1, 4, 1]⟩), ((Shape.rowMajor ⟨4, ![1, 1, 4, 1]⟩).symm n 0).val = 0 := by decide
  have h1 : ∀ n : Fin (Shape.numel ⟨4, ![1, 1, 4, 1]⟩), ((Shape.rowMajor ⟨4, ![1, 1, 4, 1]⟩).symm n 1).val = 0 := by decide
  have h2 : ∀ n : Fin (Shape.numel ⟨4, ![1, 1, 4, 1]⟩), ((Shape.rowMajor ⟨4, ![1, 1, 4, 1]⟩).symm n 2).val = n.val := by decide
  have h3 : ∀ n : Fin (Shape.numel ⟨4, ![1, 1, 4, 1]⟩), ((Shape.rowMajor ⟨4, ![1, 1, 4, 1]⟩).symm n 3).val = 0 := by decide
  have key : cum f (ix4 b h t k) = (List.finRange 4).foldl (fun (r : EReal) (n : Fin 4) =>
      r + (if hn : 3 ≤ t.val + n.val then logGate f (ix4 b h ⟨t.val + n.val - 3, by omega⟩ k) else 0)) 0 := by
    unfold cum
    show Host.reduceWindow (s := S8x24x4x128) (t := S8x24x4x128) (u := ⟨0, ![]⟩) (fun a b : EReal => a + b) ![1, 1, 4, 1] ![1, 1, 1, 1] ![0, 0, 3, 0] ![0, 0, 0, 0] (logGate f)
      (fun _ : (⟨0, ![]⟩ : Shape).Idx => (broadcastInDim S_ ![] bcast_S_S_ (constant S_ .f32 0x00000000#32) : FVec Ideal S_ .f32) (Shape.Idx.first h_S_))
      reduceWindows_S8x24x4x128_S8x24x4x128_w1s1p0_0_w1s1p0_0_w4s1p3_0_w1s1p0_0 (by decide) (ix4 b h t k) = _
    unfold Host.reduceWindow
    rw [show ((fun _ : (⟨0, ![]⟩ : Shape).Idx => (broadcastInDim S_ ![] bcast_S_S_ (constant S_ .f32 0x00000000#32) : FVec Ideal S_ .f32) (Shape.Idx.first h_S_)) = fun _ => (0 : EReal)) from funext fun _ => hz]
    refine congrArg (fun G => List.foldl G (0 : EReal) (List.finRange 4)) (funext fun r => funext fun n => congrArg (r + ·) ?_)
    have hn4 : n.val < 4 := n.isLt
    split
    · next hin =>
      have e2 := hin 2
      change 3 ≤ t.val * 1 + ((Shape.rowMajor ⟨4, ![1, 1, 4, 1]⟩).symm n 2).val ∧ _ at e2
      rw [h2 n] at e2
      rw [dif_pos (by omega)]
      refine congrArg (logGate f) (funext fun a => Fin.ext ?_)
      match a with
      | ⟨0, _⟩ =>
        show b.val * 1 + ((Shape.rowMajor ⟨4, ![1, 1, 4, 1]⟩).symm n 0).val - 0 = b.val
        rw [h0 n]; omega
      | ⟨1, _⟩ =>
        show h.val * 1 + ((Shape.rowMajor ⟨4, ![1, 1, 4, 1]⟩).symm n 1).val - 0 = h.val
        rw [h1 n]; omega
      | ⟨2, _⟩ =>
        show t.val * 1 + ((Shape.rowMajor ⟨4, ![1, 1, 4, 1]⟩).symm n 2).val - 3 = t.val + n.val - 3
        rw [h2 n]; omega
      | ⟨3, _⟩ =>
        show k.val * 1 + ((Shape.rowMajor ⟨4, ![1, 1, 4, 1]⟩).symm n 3).val - 0 = k.val
        rw [h3 n]; omega
    · next hin =>
      rw [dif_neg fun hle => hin fun a => ?_]
      match a with
      | ⟨0, _⟩ =>
        show 0 ≤ b.val * 1 + ((Shape.rowMajor ⟨4, ![1, 1, 4, 1]⟩).symm n 0).val ∧ b.val * 1 + ((Shape.rowMajor ⟨4, ![1, 1, 4, 1]⟩).symm n 0).val - 0 < 8
        rw [h0 n]; omega
      | ⟨1, _⟩ =>
        show 0 ≤ h.val * 1 + ((Shape.rowMajor ⟨4, ![1, 1, 4, 1]⟩).symm n 1).val ∧ h.val * 1 + ((Shape.rowMajor ⟨4, ![1, 1, 4, 1]⟩).symm n 1).val - 0 < 24
        rw [h1 n]; omega
      | ⟨2, _⟩ =>
        show 3 ≤ t.val * 1 + ((Shape.rowMajor ⟨4, ![1, 1, 4, 1]⟩).symm n 2).val ∧ t.val * 1 + ((Shape.rowMajor ⟨4, ![1, 1, 4, 1]⟩).symm n 2).val - 3 < 4
        rw [h2 n]; omega
      | ⟨3, _⟩ =>
        show 0 ≤ k.val * 1 + ((Shape.rowMajor ⟨4, ![1, 1, 4, 1]⟩).symm n 3).val ∧ k.val * 1 + ((Shape.rowMajor ⟨4, ![1, 1, 4, 1]⟩).symm n 3).val - 0 < 128
        rw [h3 n]; omega
  rw [key, show List.finRange 4 = [0, 1, 2, 3] from by decide, Fin.sum_univ_four]
  simp only [List.foldl_cons, List.foldl_nil, hL]
  fin_cases t <;> simp [add_assoc]

/-- A score: the query against the key (one minus the gate), each lane decayed by the gates between the two tokens; zero when the key comes later. -/
theorem scores_at (q f : FVec Ideal S8x4x3072 .f32) (b : Fin 8) (h : Fin 24) (t s : Fin 4) :
    scores q f (ix4 b h t s) = ∑ k : Fin 128, q (ix3 b t ⟨h.val * 128 + k.val, by omega⟩) * (1 - f (ix3 b s ⟨h.val * 128 + k.val, by omega⟩))
      * Ideal.exp (if s ≤ t then cum f (ix4 b h t k) - cum f (ix4 b h s k) else ⊥) := by
  pointwise [scores]
  refine Finset.sum_congr rfl fun k _ => congrArg (fun e => q _ * (1 - f _) * Ideal.exp e) ?_
  have hm : ∀ t s : Fin 4, Scalar.select (IntOp.cmpi CmpIPredicate.sge (IntOp.addi (BitVec.ofNat 32 t.val) 0#32) (BitVec.ofNat 32 s.val)) 1#1 0#1 = if s ≤ t then 1#1 else 0#1 := by
    decide
  rw [hm]
  split
  · rfl
  · show Ideal.ofBits .f32 0xFF800000#32 = ⊥
    simp [Ideal.ofBits, Ideal.ieee]

/-- A read-out: the query, decayed from the chunk's start, against the carried state, then the scores against the values. -/
theorem readOut_at (q f v : FVec Ideal S8x4x3072 .f32) (s0 : FVec Ideal S8x24x128x128 .f32) (b : Fin 8) (h : Fin 24) (t : Fin 4) (l : Fin 128) :
    readOut q f v s0 (ix4 b h t l) = (∑ k : Fin 128, q (ix3 b t ⟨h.val * 128 + k.val, by omega⟩) * Ideal.exp (cum f (ix4 b h t k)) * s0 (ix4 b h k l))
      + ∑ s : Fin 4, scores q f (ix4 b h t s) * v (ix3 b s ⟨h.val * 128 + l.val, by omega⟩) := by
  pointwise [readOut]

/-- The new state: the carried one decayed by every gate, plus each token's outer product decayed by the gates after it. -/
theorem newState_at (f v : FVec Ideal S8x4x3072 .f32) (s0 : FVec Ideal S8x24x128x128 .f32) (b : Fin 8) (h : Fin 24) (k l : Fin 128) :
    newState f v s0 (ix4 b h k l) = Ideal.exp (cum f (ix4 b h 3 k)) * s0 (ix4 b h k l)
      + ∑ s : Fin 4, (1 - f (ix3 b s ⟨h.val * 128 + k.val, by omega⟩)) * Ideal.exp (cum f (ix4 b h 3 k) - cum f (ix4 b h s k)) * v (ix3 b s ⟨h.val * 128 + l.val, by omega⟩) := by
  pointwise [newState]

/-- A row of the mixer's output that holds a token: the read-outs of the head normalised by their mean square, scaled and gated. -/
theorem mixer_at (q f v g : FVec Ideal S8x4x3072 .f32) (gain : FVec Ideal S3072 .f32) (s0 : FVec Ideal S8x24x128x128 .f32) (b : Fin 8) (t : Fin 8) (h : Fin 24) (l : Fin 128) :
    mixer q f v g gain s0 (ix3 b t ⟨h.val * 128 + l.val, by omega⟩) = if ht : t.val < 4 then
      readOut q f v s0 (ix4 b h ⟨t.val, ht⟩ l) * Ideal.rsqrt (Ideal.div (∑ e : Fin 128, readOut q f v s0 (ix4 b h ⟨t.val, ht⟩ e) * readOut q f v s0 (ix4 b h ⟨t.val, ht⟩ e)) (Ideal.ofBits .f32 0x43000000#32)
        + Ideal.ofBits .f32 0x358637BD#32) * gain (ix1 ⟨h.val * 128 + l.val, by omega⟩) * g (ix3 b ⟨t.val, ht⟩ ⟨h.val * 128 + l.val, by omega⟩) else 0 := by
  split
  · next ht =>
    pointwise [mixer]
    rw [dif_pos ⟨ht, by omega⟩]
  · next ht =>
    pointwise [mixer]
    rw [dif_neg fun e => ht e.1]
    show ((((0#32 : BitVec 32).toInt : ℤ) : ℝ) : EReal) = 0
    simp

end Cert.ReferenceIdeal.Math
-- ==== Proof.Equation.lean ====
module

public import proofs.«01_k».proof.Proof.Array
public import proofs.«01_k».proof.Proof.RefRead

@[expose] public section

set_option maxRecDepth 16384

/-! The reference's two arrays are the kernel's, where every number is finite and every gate is positive. -/

noncomputable section

namespace Cert.Equation

open Cert.KernelIdeal Idealize.ShloMosaic Idealize.ShloMosaic.TcCoe Idealize.SL.Sem

open Cert.KernelIdeal.Arrays Cert.Recurrence Cert.ReferenceIdeal.Math

section
variable (q f v g : FVec Ideal S8x4x3072 .f32) (gain : FVec Ideal S3072 .f32) (s0 : FVec Ideal S8x24x128x128 .f32)
  (hq : ∀ i, ∃ r : ℝ, q i = r) (hf : ∀ i, ∃ r : ℝ, 0 < r ∧ f i = r) (hv : ∀ i, ∃ r : ℝ, v i = r) (hs : ∀ i, ∃ r : ℝ, s0 i = r)

/-- The reference's running sums are the cumulated log gates of one head's lane. -/
theorem cum_eq (b : Fin 8) (h : Fin 24) (t : Fin 4) (k : Fin 128) :
    cum f (ix4 b h t k) = cumL (fun i => f (ix3 b i ⟨h.val * 128 + k.val, by omega⟩)) t := cum_at f b h t k

include hf hv hs in
/-- The reference's new state is the recurrence after four tokens. -/
theorem state_eq : newState f v s0 = fun y : S8x24x128x128.Idx => stG f v s0 (y 0) (y 1) (y 2) (y 3) 4 := by
  funext y
  obtain ⟨b, h, k, l, rfl⟩ : ∃ (b : Fin 8) (h : Fin 24) (k l : Fin 128), y = ix4 b h k l := ⟨y 0, y 1, y 2, y 3, ValueIdx.eq_ix4 y⟩
  refine (newState_at f v s0 b h k l).trans ?_
  simp only [cum_eq]
  exact state_closed _ _ _ (fun i => hf _) (fun i => hv _) (hs _)

include hq hf hv hs in
/-- The reference's read-outs are the queries against the recurrence. -/
theorem readOut_eq (b : Fin 8) (h : Fin 24) (t : Fin 4) (l : Fin 128) : readOut q f v s0 (ix4 b h t l) = rdG q f v s0 b h t l := by
  rw [readOut_at]
  simp only [scores_at, cum_eq]
  exact read_closed (fun i k => q (ix3 b i ⟨h.val * 128 + k.val, by omega⟩)) (fun i k => f (ix3 b i ⟨h.val * 128 + k.val, by omega⟩))
    (fun i => v (ix3 b i ⟨h.val * 128 + l.val, by omega⟩)) (fun k => s0 (ix4 b h k l)) t (fun i k => hq _) (fun i k => hf _) (fun i => hv _) (fun k => hs _)

include hq hf hv hs in
/-- The reference's mixer output is the kernel's. -/
theorem mixer_eq : mixer q f v g gain s0 = fun y : S8x8x3072.Idx => mixG q f v g gain s0 (y 0) (y 1)
    ⟨(y 2).val / 128, by have := (y 2).isLt; simp at this; omega⟩ ⟨(y 2).val % 128, by omega⟩ := by
  funext y
  obtain ⟨b, t, w, rfl⟩ : ∃ (b t : Fin 8) (w : Fin 3072), y = ix3 b t w := ⟨y 0, y 1, y 2, ValueIdx.eq_ix3 y⟩
  have e : w = ⟨(⟨w.val / 128, by omega⟩ : Fin 24).val * 128 + (⟨w.val % 128, by omega⟩ : Fin 128).val, by dsimp only; omega⟩ := Fin.ext (by dsimp only; omega)
  refine (congrArg (fun x => mixer q f v g gain s0 (ix3 b t x)) e).trans ?_
  refine (mixer_at q f v g gain s0 b t ⟨w.val / 128, by omega⟩ ⟨w.val % 128, by omega⟩).trans ?_
  simp only [readOut_eq q f v s0 hq hf hv hs]
  rfl

end

end Cert.Equation
-- ==== Proof.Finite.lean ====
module

public import proofs.«01_k».proof.Defs
public import proofs.«01_k».proof.Proof.Gen.Pre_gates_finite
public import Idealize.ShloMosaic.Lib.ReduceAll
public import Idealize.ShloMosaic.Lib.Pointwise

@[expose] public section

set_option maxRecDepth 16384

/-! The precondition read back: every query, value and state entry is a real number, every gate a positive real number. -/

noncomputable section

namespace Cert.Pre_gates_finite

open Idealize.ShloMosaic Cert.Pre_gates_finite Cert.Pre_gates_finite.Gen

/-- An extended real whose absolute value is below the top is a real number. -/
theorem real_of_abs (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have h' : max x (-x) < ⊤ := by
    by_contra hc
    simp [Ideal.cmp, hc] at h
  obtain ⟨h1, h2⟩ := max_lt_iff.1 h'
  refine ⟨x.toReal, (EReal.coe_toReal h1.ne fun hb => ?_).symm⟩
  rw [hb] at h2
  exact absurd h2 (by simp)

/-- An extended real strictly between zero and the top is a positive real number. -/
theorem real_of_pos (x : EReal) (h0 : Ideal.cmp .ogt x (Ideal.ofBits .f32 0x00000000#32) = 1#1) (h1 : Ideal.cmp .olt x (Ideal.ofBits .f32 0x7F800000#32) = 1#1) :
    ∃ r : ℝ, 0 < r ∧ x = r := by
  have ht : Ideal.ofBits .f32 0x7F800000#32 = ⊤ := by simp [Ideal.ofBits, Ideal.ieee]
  have hz : Ideal.ofBits .f32 0x00000000#32 = 0 := by simp [Ideal.ofBits, Ideal.ieee]
  rw [hz] at h0
  rw [ht] at h1
  have h0' : 0 < x := by
    by_contra hc
    simp [Ideal.cmp, hc] at h0
  have h1' : x < ⊤ := by
    by_contra hc
    simp [Ideal.cmp, hc] at h1
  have e : ((x.toReal : ℝ) : EReal) = x := EReal.coe_toReal h1'.ne (fun hb => by rw [hb] at h0'; simp at h0')
  refine ⟨x.toReal, ?_, e.symm⟩
  rw [← e] at h0'
  exact EReal.coe_pos.1 h0'

/-- What the precondition says of the arrays. -/
theorem reals (q f v g : FVec Ideal Cert.Pre_gates_finite.S8x4x3072 .f32) (gain : FVec Ideal S3072 .f32) (s0 : FVec Ideal S8x24x128x128 .f32)
    (h : Cert.Pre_gates_finite.fn (F := Ideal) q f v g gain s0 ValueIdx.ix0 = 1#1) :
    (∀ i, ∃ r : ℝ, q i = r) ∧ (∀ i, ∃ r : ℝ, 0 < r ∧ f i = r) ∧ (∀ i, ∃ r : ℝ, v i = r) ∧ (∀ i, ∃ r : ℝ, s0 i = r) := by
  haveI : Subsingleton S_.Idx := ⟨fun a b => funext fun x => x.elim0⟩
  dsimp only [Cert.Pre_gates_finite.fn, Cert.Pre_gates_finite.fn_part1] at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨fun i => ?_, fun i => ?_, fun i => ?_, fun i => ?_⟩
  · exact real_of_abs _ (Host.reduce_andi_all _ _ _ _ _ h1 i)
  · exact real_of_pos _ (Host.reduce_andi_all _ _ _ _ _ h2 i) (Host.reduce_andi_all _ _ _ _ _ h3 i)
  · exact real_of_abs _ (Host.reduce_andi_all _ _ _ _ _ h4 i)
  · exact real_of_abs _ (Host.reduce_andi_all _ _ _ _ _ h5 i)

end Cert.Pre_gates_finite
-- ==== Proof.Up.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

/-! The MLP's up projection: every block is the squared ReLU of its rows times its columns. -/

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)

/-- The reference's squared ReLU of the product, for the prompt's tokens. -/
abbrev refP (X : FVec Ideal S8192x4096 .bf16) (W : FVec Ideal S1x4096x16384 .bf16) : FVec Ideal S1x8192x16384 .bf16 :=
  let z : FVec Ideal Cert.Reference2Ideal.S8192x16384 .f32 := Host.dotGeneral Cert.Reference2Ideal.dot_S8192x4096_S4096x16384_S8192x16384_1_0_0_1_n_n none X
    (shapeCast Cert.Reference2Ideal.S4096x16384 W Cert.Reference2Ideal.Gen.shapeCasts_S1x4096x16384_S4096x16384)
  let r := maximumf z (broadcastInDim Cert.Reference2Ideal.S8192x16384 ![] Cert.Reference2Ideal.Gen.bcast_S_S8192x16384 (constant Cert.Reference2Ideal.S_ .f32 0x00000000#32))
  broadcastInDim S1x8192x16384 ![1, 2] Cert.Reference2Ideal.Gen.bcast_S8192x16384_S1x8192x16384_1_2 (truncf .bf16 (mulf r r) Cert.Reference2Ideal.Gen.bitsLt_bf16_f32)

/-- The same for the sample's tokens. -/
abbrev refS (X : FVec Ideal S64x4096 .bf16) (W : FVec Ideal S1x4096x16384 .bf16) : FVec Ideal S1x64x16384 .bf16 :=
  let z : FVec Ideal Cert.Reference2Ideal.S64x16384 .f32 := Host.dotGeneral Cert.Reference2Ideal.dot_S64x4096_S4096x16384_S64x16384_1_0_0_1_n_n none X
    (shapeCast Cert.Reference2Ideal.S4096x16384 W Cert.Reference2Ideal.Gen.shapeCasts_S1x4096x16384_S4096x16384)
  let r := maximumf z (broadcastInDim Cert.Reference2Ideal.S64x16384 ![] Cert.Reference2Ideal.Gen.bcast_S_S64x16384 (constant Cert.Reference2Ideal.S_ .f32 0x00000000#32))
  broadcastInDim S1x64x16384 ![1, 2] Cert.Reference2Ideal.Gen.bcast_S64x16384_S1x64x16384_1_2 (truncf .bf16 (mulf r r) Cert.Reference2Ideal.Gen.bitsLt_bf16_f32)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, t.val / 8]
    ∧ win0_3.index t = ![0, t.val % 8, t.val / 8] ∧ win0_4.index t = ![0, 0, t.val / 8] :=
  (by decide +kernel : ∀ t : Fin grid0.N, _)

/-- What a point stores for the prompt is the reference at the block's place. -/
theorem pointP (c : Dev nD) (t : Fin cfg0.N) (y) : k0_pay1 (F := Ideal) (iblk m c 0 t) (iblk m c 2 t) y
    = refP (m ((c : Thread nD τ).loc main_arg0)) (m ((c : Thread nD τ).loc main_arg2)) (((cfg0.win 3).blk t).view.emb y) := by
  pointwise [k0_pay1, refP]
  blk_point [iblk, V, idx t]

/-- What a last point of a column stores for the sample is the reference at the block's place. -/
theorem pointS (c : Dev nD) (t : Fin cfg0.N) (y) : k0_pay2 (F := Ideal) (iblk m c 1 t) (iblk m c 2 t) y
    = refS (m ((c : Thread nD τ).loc main_arg1)) (m ((c : Thread nD τ).loc main_arg2)) (((cfg0.win 4).blk t).view.emb y) := by
  pointwise [k0_pay2, refS]
  blk_point [iblk, V, idx t]

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h : t.val % 8 = 7
  · rw [outsAt0_B m c t h]; frame_out; exact pointP m c t y
  · rw [outsAt0_A m c t h]; frame_out; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  rw [after0_4, outsAt0_B m c t ((flush0_4 t).mp hf)]; frame_out; exact pointS m c t y

/-- Kernel and reference leave the same two arrays. -/
theorem values : letI := Cert.Kernel2Ideal.Gen.facts; letI := Cert.Reference2Ideal.Gen.facts
    Cert.algebraic_Kernel2Ideal_Reference2Ideal := by
  intro m g m' g' hpre hargs
  refine ⟨_, _, (θ_run _ _ _).mono (fun r h c => h c) (Cert.Kernel2Ideal.Value.run_blocks m g), (θ_run _ _ _).mono (fun r h c => ?_) (Cert.Reference2Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference2Ideal.Gen.facts; Cert.quiescent_Reference2Ideal := by
  intro m g _
  exact (θ_run _ _ _).mono (fun r h => ⟨fun c => (h c).2.2, sem_eq_zero_of_no_sems (by decide) r.2⟩) (Cert.Reference2Ideal.Value.run m g)

end Cert.Kernel2Ideal.Up

end
-- ==== Proof.DownRun.lean ====
module

public import proofs.«01_k».proof.Defs
public import proofs.«01_k».proof.Proof.Gen.Kernel3Ideal.Frame
public import proofs.«01_k».proof.Proof.Gen.Kernel3Ideal.Skeleton
public import Idealize.ShloMosaic.Lib.Pipeline.ValueKit
public import Idealize.ShloMosaic.Lib.Pipeline.TableIdle
public import Idealize.ShloMosaic.Lib.Claim
public import Idealize.ShloMosaic.Lib.VecWindow

@[expose] public section

set_option maxRecDepth 16384

/-! The MLP's down projection: what one call of its body leaves in the two output blocks. -/

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

/-- The first slice of the contracted axis. -/
abbrev First (i : grid0.Coords) : Prop :=
  Scalar.cmpi .ne (Scalar.extui (Scalar.cmpi .eq (BitVec.ofNat 32 (i 2).val) 0#32) : BitVec 32) 0#32 = 1#1

/-- The first slice of the first block of rows: the sample rows start. -/
abbrev Start (i : grid0.Coords) : Prop := k0_cond2 i = 1#1

/-- The first block of rows: the sample rows are at work. -/
abbrev Work (i : grid0.Coords) : Prop := k0_cond3 i = 1#1

theorem first_iff (t : Fin cfg0.N) : First (grid0.coords t) ↔ t.val % 4 = 0 := by
  have ht : t.val < 128 := Nat.lt_of_lt_of_eq t.isLt N_0
  have e2 : (grid0.coords t 2).val = t.val / 1 % 4 := Pipeline.Grid.coords_val t 2 (by decide) rfl
  simp only [First, e2]
  word_cmp

theorem start_iff : ∀ t : Fin cfg0.N, Start (grid0.coords t) ↔ t.val % 32 = 0 := by decide +kernel
theorem work_iff : ∀ t : Fin cfg0.N, Work (grid0.coords t) ↔ t.val % 32 < 4 := by decide +kernel
theorem live (t : Fin cfg0.N) (w : Fin 5) (h : w ≠ 4) : cfg0.idle w (grid0.coords t) = false := by
  revert h; fin_cases w <;> intro h <;> first | rfl | exact absurd rfl h
theorem idle_iff : ∀ t : Fin cfg0.N, cfg0.idle 4 (grid0.coords t) = !decide (t.val % 32 < 4) := by decide +kernel
theorem fresh_3 (t : Fin cfg0.N) : cfg0.fresh 3 t.val = decide (t.val % 4 = 0) :=
  Pipeline.Cfg.fresh_tab cfg0 3 (fun n => decide (n % 4 = 0)) rfl (by decide +kernel) t.val t.isLt.le
theorem fresh_4 (t : Fin cfg0.N) : cfg0.fresh 4 t.val = decide (t.val % 32 = 0) :=
  Pipeline.Cfg.fresh_tab cfg0 4 (fun n => decide (n % 32 = 0)) rfl (by decide +kernel) t.val t.isLt.le

/-- What the body leaves in the prompt's block, over what it found there. -/
def prompt (i : grid0.Coords) (x : Vec F S1024x4096 .bf16) (w : Vec F S1x4096x1024 .bf16) (o : Vec F S1024x1024 .f32) : Vec F S1024x1024 .f32 :=
  open scoped Classical in k0_pay2 (if First i then k0_pay1 else o) x w

/-- What the body leaves in the sample's block, over what it found there. -/
def sample (i : grid0.Coords) (x : Vec F S64x4096 .bf16) (w : Vec F S1x4096x1024 .bf16) (o : Vec F S64x1024 .f32) : Vec F S64x1024 .f32 :=
  open scoped Classical in
  if Work i then k0_pay4 (if Start i then k0_pay3 else o) x w else o

set_option maxHeartbeats 2000000 in
/-- One call of the body. -/
theorem run (c : Dev nD) (i : grid0.Coords) (hs : Start i ↔ First i ∧ Work i) (a0 : Memref sig .tc .vmem S1024x4096 .bf16) (h0 : a0.IsWhole) (a1 : Memref sig .tc .vmem S64x4096 .bf16) (h1 : a1.IsWhole) (a2 : Memref sig .tc .vmem S1x4096x1024 .bf16) (h2 : a2.IsWhole) (a3 : Memref sig .tc .vmem S1024x1024 .f32) (h3 : a3.IsWhole) (a4 : Memref sig .tc .vmem S64x1024 .f32) (h4 : a4.IsWhole)
    (x0 : Vec F S1024x4096 .bf16) (x1 : Vec F S64x4096 .bf16) (x2 : Vec F S1x4096x1024 .bf16) (x3 : Vec F S1024x1024 .f32) (x4 : Vec F S64x1024 .f32)
    (E : Set ℕ) (K : PUnit → sProp (MT nD τ sig Unit (Elt F) ℕ (UR sig nD τ) ℕ)) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
        ∗ (iprop(owns (c : Thread nD τ) a0 fullShare x0 ∗ owns (c : Thread nD τ) a1 fullShare x1 ∗ owns (c : Thread nD τ) a2 fullShare x2 ∗ owns (c : Thread nD τ) a3 fullShare (prompt i x0 x2 x3) ∗ owns (c : Thread nD τ) a4 fullShare (sample i x1 x2 x4)) -∗ K ⟨⟩))
      ⊢ wp frame (wpE (defs₀ (F := F)) Variants.none c none) E (cc0_matmul_long_k i a0 h0 a1 h1 a2 h2 a3 h3 a4 h4) K := by
  simp only [cc0_matmul_long_k_eq_skeleton]; unfold cc0_matmul_long_k_skel prompt sample
  unfold owns
  iintro ⟨⟨%f0, %e0, H0⟩, ⟨%f1, %e1, H1⟩, ⟨%f2, %e2, H2⟩, ⟨%f3, %e3, H3⟩, ⟨%f4, %e4, H4⟩, Hk⟩
  obtain rfl := h0.eq_unread e0; obtain rfl := h1.eq_unread e1; obtain rfl := h2.eq_unread e2; obtain rfl := h3.eq_unread e3; obtain rfl := h4.eq_unread e4
  by_cases hf : First i <;> by_cases hw : Work i
  all_goals
    first | have ht : Start i := hs.mpr ⟨hf, hw⟩ | have ht : ¬Start i := fun h => hf (hs.mp h).1 | have ht : ¬Start i := fun h => hw (hs.mp h).2
    first | rw [if_pos hf] | rw [if_neg hf]
    first | rw [if_pos hw] | rw [if_neg hw]
    try first | rw [if_pos ht] | rw [if_neg ht]
    sl_exec (disch := first | sl_exact hf | sl_exact hw | sl_exact ht)
    sl_step
    iapply Hk
    isplitl [H0]
    · iexists _; isplitr; · ipureintro; exact e0
      iexact H0
    isplitl [H1]
    · iexists _; isplitr; · ipureintro; exact e1
      iexact H1
    isplitl [H2]
    · iexists _; isplitr; · ipureintro; exact e2
      iexact H2
    isplitl [H3]
    · iexists _; isplitr
      swap; · iexact H3
      ipureintro
      frame_out
      exact View.read_writes_full _ _ _ _ _
    iexists _; isplitr
    swap; · iexact H4
    ipureintro
    first
      | with_reducible exact e4
      | (frame_out; exact View.read_writes_full _ _ _ _ _)

end Cert.Kernel3Ideal.Down
-- ==== Proof.DownFrame.lean ====
module

public import proofs.«01_k».proof.Proof.DownRun

@[expose] public section

set_option maxRecDepth 16384

/-! The MLP's down projection: its run. The sample's block is summed at the first block of rows alone and then carried, untouched,
to the last one, where it is written back. -/

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- What the two blocks hold after each point. -/
def outs (c : Dev nD) : (n : ℕ) → n < cfg0.N → Vec F S1024x1024 .f32 × Vec F S64x1024 .f32
  | 0, h => (prompt (grid0.coords ⟨0, h⟩) (iblk m c 0 ⟨0, h⟩) (iblk m c 2 ⟨0, h⟩) k0_pay1,
      sample (grid0.coords ⟨0, h⟩) (iblk m c 1 ⟨0, h⟩) (iblk m c 2 ⟨0, h⟩) k0_pay3)
  | n + 1, h => (prompt (grid0.coords ⟨n + 1, h⟩) (iblk m c 0 ⟨n + 1, h⟩) (iblk m c 2 ⟨n + 1, h⟩) (outs c n (Nat.lt_of_succ_lt h)).1,
      sample (grid0.coords ⟨n + 1, h⟩) (iblk m c 1 ⟨n + 1, h⟩) (iblk m c 2 ⟨n + 1, h⟩) (outs c n (Nat.lt_of_succ_lt h)).2)

/-- Where the prompt's block starts, what it held before does not matter. -/
theorem prompt_first {i : grid0.Coords} (h : First i) (x : Vec F S1024x4096 .bf16) (w : Vec F S1x4096x1024 .bf16) (o : Vec F S1024x1024 .f32) :
    prompt i x w o = k0_pay2 k0_pay1 x w := by
  unfold prompt; rw [if_pos h]

theorem prompt_next {i : grid0.Coords} (h : ¬First i) (x : Vec F S1024x4096 .bf16) (w : Vec F S1x4096x1024 .bf16) (o : Vec F S1024x1024 .f32) :
    prompt i x w o = k0_pay2 o x w := by
  unfold prompt; rw [if_neg h]

theorem sample_start {i : grid0.Coords} (h : Start i) (h' : Work i) (x : Vec F S64x4096 .bf16) (w : Vec F S1x4096x1024 .bf16) (o : Vec F S64x1024 .f32) :
    sample i x w o = k0_pay4 k0_pay3 x w := by
  unfold sample; rw [if_pos h', if_pos h]

theorem sample_next {i : grid0.Coords} (h : ¬Start i) (h' : Work i) (x : Vec F S64x4096 .bf16) (w : Vec F S1x4096x1024 .bf16) (o : Vec F S64x1024 .f32) :
    sample i x w o = k0_pay4 o x w := by
  unfold sample; rw [if_pos h', if_neg h]

theorem sample_rest {i : grid0.Coords} (h : ¬Work i) (x : Vec F S64x4096 .bf16) (w : Vec F S1x4096x1024 .bf16) (o : Vec F S64x1024 .f32) :
    sample i x w o = o := by
  unfold sample; rw [if_neg h]

theorem start_both (t : Fin cfg0.N) : Start (grid0.coords t) ↔ First (grid0.coords t) ∧ Work (grid0.coords t) := by
  rw [start_iff, first_iff, work_iff]; omega

theorem outs_prompt_first (c : Dev nD) (t : Fin cfg0.N) (h : t.val % 4 = 0) :
    (outs m c t.val t.isLt).1 = k0_pay2 k0_pay1 (iblk m c 0 t) (iblk m c 2 t) := by
  obtain ⟨n, hn⟩ := t
  cases n <;> exact prompt_first ((first_iff _).mpr h) _ _ _

theorem outs_prompt_next (c : Dev nD) (t : Fin cfg0.N) (h : ¬t.val % 4 = 0) :
    (outs m c t.val t.isLt).1 = k0_pay2 (outs m c (t.val - 1) (Nat.lt_of_le_of_lt (Nat.sub_le _ _) t.isLt)).1 (iblk m c 0 t) (iblk m c 2 t) := by
  obtain ⟨n, hn⟩ := t
  cases n
  · exact absurd rfl h
  · exact prompt_next (fun h' => h ((first_iff _).mp h')) _ _ _

theorem outs_sample_start (c : Dev nD) (t : Fin cfg0.N) (h : t.val % 32 = 0) :
    (outs m c t.val t.isLt).2 = k0_pay4 k0_pay3 (iblk m c 1 t) (iblk m c 2 t) := by
  obtain ⟨n, hn⟩ := t
  have hs := (start_iff ⟨n, hn⟩).mpr h
  have hw := (work_iff ⟨n, hn⟩).mpr (by omega)
  cases n <;> exact sample_start hs hw _ _ _

theorem outs_sample_next (c : Dev nD) (t : Fin cfg0.N) (h : ¬t.val % 32 = 0) (h' : t.val % 32 < 4) :
    (outs m c t.val t.isLt).2 = k0_pay4 (outs m c (t.val - 1) (Nat.lt_of_le_of_lt (Nat.sub_le _ _) t.isLt)).2 (iblk m c 1 t) (iblk m c 2 t) := by
  obtain ⟨n, hn⟩ := t
  cases n
  · exact absurd rfl h
  · exact sample_next (fun e => h ((start_iff _).mp e)) ((work_iff _).mpr h') _ _ _

theorem outs_sample_rest (c : Dev nD) (t : Fin cfg0.N) (h : ¬t.val % 32 < 4) :
    (outs m c t.val t.isLt).2 = (outs m c (t.val - 1) (Nat.lt_of_le_of_lt (Nat.sub_le _ _) t.isLt)).2 := by
  obtain ⟨n, hn⟩ := t
  cases n
  · exact absurd (show 0 % 32 < 4 by decide) h
  · exact sample_rest (fun e => h ((work_iff _).mp e)) _ _ _

/-- What the pipeline's arrays and blocks hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outs m c t.val t.isLt).1 := by dsimp only [dats]
theorem after_4 (c : Dev nD) (t : Fin cfg0.N) : (dats m 0 c).after 4 t = (outs m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The prompt's block as the body finds it. -/
theorem before_3 (c : Dev nD) (t : Fin cfg0.N) (d) : (dats m 0 c).before 3 t d
    = if t.val % 4 = 0 then d else (outs m c (t.val - 1) (Nat.lt_of_le_of_lt (Nat.sub_le _ _) t.isLt)).1 := by
  rw [Dat.before_out_traj (dats m 0 c) 3 rfl (fun _ _ => rfl)
    (fun t _ hi => absurd ((live t 3 (by decide)).symm.trans hi) (by decide)) t.val t rfl d, fresh_3, after_3]
  simp only [decide_eq_true_eq]

/-- The sample's block as the body finds it. -/
theorem before_4 (c : Dev nD) (t : Fin cfg0.N) (d) : (dats m 0 c).before 4 t d
    = if t.val % 32 = 0 then d else (outs m c (t.val - 1) (Nat.lt_of_le_of_lt (Nat.sub_le _ _) t.isLt)).2 := by
  rw [Dat.before_out_traj (dats m 0 c) 4 rfl (fun _ _ => rfl)
    (fun t _ hi _ => by
      rw [after_4, after_4]
      exact outs_sample_rest m c t (by rw [idle_iff] at hi; simpa using hi)) t.val t rfl d, fresh_4, after_4]
  simp only [decide_eq_true_eq]

theorem prompt_before (c : Dev nD) (t : Fin cfg0.N) (d) :
    prompt (grid0.coords t) (iblk m c 0 t) (iblk m c 2 t) ((dats m 0 c).before 3 t d) = (outs m c t.val t.isLt).1 := by
  rw [before_3]
  by_cases h : t.val % 4 = 0
  · rw [prompt_first ((first_iff t).mpr h), outs_prompt_first m c t h]
  · rw [prompt_next (fun e => h ((first_iff t).mp e)), outs_prompt_next m c t h, if_neg h]

theorem sample_before (c : Dev nD) (t : Fin cfg0.N) (d) :
    sample (grid0.coords t) (iblk m c 1 t) (iblk m c 2 t) ((dats m 0 c).before 4 t d) = (outs m c t.val t.isLt).2 := by
  rw [before_4]
  by_cases h' : t.val % 32 < 4
  · by_cases h : t.val % 32 = 0
    · rw [sample_start ((start_iff t).mpr h) ((work_iff t).mpr h'), outs_sample_start m c t h]
    · rw [sample_next (fun e => h ((start_iff t).mp e)) ((work_iff t).mpr h'), outs_sample_next m c t h h', if_neg h]
  · rw [sample_rest (fun e => h' ((work_iff t).mp e)), outs_sample_rest m c t h', if_neg (by omega)]

/-- What the body is called with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The sample's block is handed on as the point leaves it, worked on or not. -/
theorem leaves_4 (c : Dev nD) (t : Fin cfg0.N) :
    owns (c : Thread nD τ) (win0_4.stage (cfg0.slots t 4)) fullShare (outs m c t.val t.isLt).2 ⊢ (dats m 0 c).leavesExact 4 t := by
  by_cases h : t.val % 32 < 4
  · rw [leaves_live m c t 4 ((idle_iff t).trans (by simp [h])), after_4]
  · have hi : cfg0.idle 4 (cfg0.grid.coords t) = true := (idle_iff t).trans (by simp [h])
    by_cases hl : (cfg0.win 4).flush t = true
    · unfold Dat.leavesExact; rw [hi, hl, after_4]
    · rw [Dat.leavesExact_idle (dats m 0 c) 4 t hi (by simpa using hl)]
      iintro H
      iexists (outs m c t.val t.isLt).2
      rw [before_4, if_neg (by omega), ← outs_sample_rest m c t h]
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c t 0 (live t 0 (by decide)), leaves_live m c t 1 (live t 1 (by decide)), leaves_live m c t 2 (live t 2 (by decide)),
    leaves_live m c t 3 (live t 3 (by decide)), after_0, after_1, after_2, after_3]
  iintro ⟨HΦ, Ho, ⟨%d0, H0⟩, ⟨%d1, H1⟩, ⟨%d2, H2⟩, ⟨%d3, H3⟩, ⟨%d4, H4⟩⟩
  iapply (run c (grid0.coords t) (start_both t) _ _ _ _ _ _ _ _ _ _ (iblk m c 0 t) (iblk m c 1 t) (iblk m c 2 t) ((dats m 0 c).before 3 t d3) ((dats m 0 c).before 4 t d4) Set.univ _)
  isplitl [H0]; · iexact H0
  isplitl [H1]; · iexact H1
  isplitl [H2]; · iexact H2
  isplitl [H3]; · iexact H3
  isplitl [H4]; · iexact H4
  rw [prompt_before, sample_before]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves_4 m c t)
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim's run: the arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Down

end
-- ==== Proof.DownBits.lean ====
module

public import proofs.«01_k».proof.Proof.DownFrame
public import proofs.«01_k».proof.Proof.Gen.Kernel3.Frame
public import Idealize.ShloMosaic.Lib.Tactic
public import Idealize.ShloMosaic.Lib.Ring

@[expose] public section

set_option maxRecDepth 65536

/-! The printed down projection and its idealized text are the same program: the second's run is the first's. -/

noncomputable section

namespace Cert.Kernel3.Down

open Cert.Kernel3 Idealize.ShloMosaic Idealize.ShloMosaic.TcCoe Idealize.SL.Sem

variable {F : FTy → Type} [FloatOps F]

/-- The frame claim's run: the arguments end unchanged. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Cert.Kernel3Ideal.Down.frame (F := F) m ρ
  refine Eq.mp ?_ h
  sl_kernel_rfl

end Cert.Kernel3.Down

end
-- ==== Proof.Down.lean ====
module

public import proofs.«01_k».proof.Proof.DownFrame
public import proofs.«01_k».proof.Proof.Gen.Reference3Ideal.Run

@[expose] public section

set_option maxRecDepth 16384

/-! The MLP's down projection: the four slices of the contracted axis, added one by one, make the whole product. -/

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)

/-- The reference's product for the prompt's tokens. -/
abbrev refP (X : FVec Ideal S8192x16384 .bf16) (W : FVec Ideal S1x16384x4096 .bf16) : FVec Ideal S8192x4096 .f32 :=
  Host.dotGeneral Cert.Reference3Ideal.dot_S8192x16384_S16384x4096_S8192x4096_1_0_0_1_n_n none X
    (shapeCast Cert.Reference3Ideal.S16384x4096 W Cert.Reference3Ideal.Gen.shapeCasts_S1x16384x4096_S16384x4096)

/-- The same for the sample's tokens. -/
abbrev refS (X : FVec Ideal S64x16384 .bf16) (W : FVec Ideal S1x16384x4096 .bf16) : FVec Ideal S64x4096 .f32 :=
  Host.dotGeneral Cert.Reference3Ideal.dot_S64x16384_S16384x4096_S64x4096_1_0_0_1_n_n none X
    (shapeCast Cert.Reference3Ideal.S16384x4096 W Cert.Reference3Ideal.Gen.shapeCasts_S1x16384x4096_S16384x4096)

variable (m : (ℓ : Loc nD τ sig) → Buf (Elt Ideal) ℓ)

/-- Where every window's block sits at grid point `t`. -/
theorem idx : ∀ t : Fin cfg0.N, win0_0.index t = ![t.val / 4 % 8, t.val % 4] ∧ win0_1.index t = ![0, t.val % 4] ∧ win0_2.index t = ![0, t.val % 4, t.val / 32]
    ∧ win0_3.index t = ![t.val / 4 % 8, t.val / 32] ∧ win0_4.index t = ![0, t.val / 32] :=
  (by decide +kernel : ∀ t : Fin grid0.N, _)

/-- One slice's share of the prompt's product. -/
def partP (x : FVec Ideal S1024x4096 .bf16) (w : FVec Ideal S1x4096x1024 .bf16) (j : S1024x1024.Idx) : EReal :=
  ∑ k : Fin 4096, x (ix2 (j 0) k) * w (ix3 0 k (j 1))

/-- One slice's share of the sample's product. -/
def partS (x : FVec Ideal S64x4096 .bf16) (w : FVec Ideal S1x4096x1024 .bf16) (j : S64x1024.Idx) : EReal :=
  ∑ k : Fin 4096, x (ix2 (j 0) k) * w (ix3 0 k (j 1))

theorem zeroP (j) : k0_pay1 (F := Ideal) j = 0 := by pointwise [k0_pay1]
theorem zeroS (j) : k0_pay3 (F := Ideal) j = 0 := by pointwise [k0_pay3]
theorem stepP (o : FVec Ideal S1024x1024 .f32) (x w j) : k0_pay2 (F := Ideal) o x w j = o j + partP x w j := by
  unfold partP; pointwise [k0_pay2]
theorem stepS (o : FVec Ideal S64x1024 .f32) (x w j) : k0_pay4 (F := Ideal) o x w j = o j + partS x w j := by
  unfold partS; pointwise [k0_pay4]

/-- The reference's entry as one sum over the whole axis. -/
theorem refP_at (X W) (j : S8192x4096.Idx) : refP X W j = ∑ l : Fin 16384, X (ix2 (j 0) l) * W (ix3 0 l (j 1)) := by pointwise [refP]
theorem refS_at (X W) (j : S64x4096.Idx) : refS X W j = ∑ l : Fin 16384, X (ix2 (j 0) l) * W (ix3 0 l (j 1)) := by pointwise [refS]

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  have hr := (flush0_3 t).mp hf
  blk_simp
  rw [after_3, Pipeline.eq_sum_fin_of_reset_step_apply_of_flush (fun n h => (outs m c n h).1) 4 (fun _ => 0) _
    (fun t h j => by rw [outs_prompt_first m c t h, stepP, zeroP])
    (fun t h j => by rw [outs_prompt_next m c t h, stepP]) t hr _, zero_add, refP_at]
  simp only [partP]
  refine Fin.sum_mul_add_congr fun s k hl => ?_
  blk_point [iblk, V, idx t, idx ⟨_, Pipeline.run_point_lt_of_flush t hr s⟩]

/-- After the first block of rows the sample's block no longer changes. -/
theorem carried (c : Dev nD) (q k : ℕ) (hk : 3 + k < 32) (h : 32 * q + (3 + k) < cfg0.N) :
    (outs m c (32 * q + (3 + k)) h).2 = (outs m c (32 * q + 3) (by omega)).2 := by
  induction k with
  | zero => rfl
  | succ k ih => exact (outs_sample_rest m c ⟨32 * q + (3 + (k + 1)), h⟩ (by dsimp only; omega)).trans (ih (by omega) (by omega))

/-- The sample's block after the first block of rows: its four shares. -/
theorem summed (c : Dev nD) (q : ℕ) (h : 32 * q + 3 < cfg0.N) (y) : (outs m c (32 * q + 3) h).2 y
    = ∑ s : Fin 4, partS (iblk m c 1 ⟨32 * q + s.val, by omega⟩) (iblk m c 2 ⟨32 * q + s.val, by omega⟩) y := by
  have e0 := congrFun (outs_sample_start m c ⟨32 * q + 0, by omega⟩ (by dsimp only; omega)) y
  have e1 := congrFun (outs_sample_next m c ⟨32 * q + 1, by omega⟩ (by dsimp only; omega) (by dsimp only; omega)) y
  have e2 := congrFun (outs_sample_next m c ⟨32 * q + 2, by omega⟩ (by dsimp only; omega) (by dsimp only; omega)) y
  have e3 := congrFun (outs_sample_next m c ⟨32 * q + 3, by omega⟩ (by dsimp only; omega) (by dsimp only; omega)) y
  rw [stepS] at e0 e1 e2 e3
  rw [zeroS, zero_add] at e0
  rw [Fin.sum_univ_four]
  exact e3.trans (congrArg (· + _) (e2.trans (congrArg (· + _) (e1.trans (congrArg (· + _) e0)))))

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  have hr := (flush0_4 t).mp hf
  have hn : t.val < 128 := lt_of_lt_of_eq t.isLt N_0
  obtain ⟨q, hb, rfl⟩ : ∃ q, ∃ hb : 32 * q + (3 + 28) < cfg0.N, t = ⟨32 * q + (3 + 28), hb⟩ :=
    ⟨t.val / 32, by have := t.isLt; omega, Fin.ext (by dsimp only; omega)⟩
  blk_simp
  rw [after_4]
  show (outs m c (32 * q + (3 + 28)) hb).2 y = _
  rw [carried m c q 28 (by omega) hb, summed, refS_at]
  simp only [partS]
  refine Fin.sum_mul_add_congr fun s k hl => ?_
  blk_point [iblk, V, idx ⟨32 * q + (3 + 28), hb⟩, idx ⟨32 * q + s.val, by omega⟩]

/-- Kernel and reference leave the same two arrays. -/
theorem values : letI := Cert.Kernel3Ideal.Gen.facts; letI := Cert.Reference3Ideal.Gen.facts
    Cert.algebraic_Kernel3Ideal_Reference3Ideal := by
  intro m g m' g' hpre hargs
  refine ⟨_, _, (θ_run _ _ _).mono (fun r h c => ⟨(h.1 c).1 3, (h.1 c).1 4, (h.2.1 c)⟩)
    (θ_run_and (run_main m g) (frame m g)), (θ_run _ _ _).mono (fun r h c => ?_) (Cert.Reference3Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference3Ideal.Gen.facts; Cert.quiescent_Reference3Ideal := by
  intro m g _
  exact (θ_run _ _ _).mono (fun r h => ⟨fun c => (h c).2.2, sem_eq_zero_of_no_sems (by decide) r.2⟩) (Cert.Reference3Ideal.Value.run m g)

end Cert.Kernel3Ideal.Down

end
-- ==== Proof.Keys.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

/-! The shared keys: each block is its rows times the columns of the weight that a scratch buffer carries along the rows. -/

noncomputable section

namespace Cert.Kernel4Ideal.Keys

open Cert.Kernel4Ideal Cert.Kernel4Ideal.Gen Idealize.ShloMosaic Idealize.ShloMosaic.TcCoe Idealize.SL.Sem
open Idealize.ShloMosaic.Pipeline (Dat)

/-- The reference's keys of the prompt's tokens. -/
abbrev refP (X : FVec Ideal S8192x4096 .bf16) (W : FVec Ideal S4096x6168 .f32) : FVec Ideal S1x8192x3072 .f32 :=
  let z : FVec Ideal Cert.Reference4Ideal.S8192x6168 .f32 := Host.dotGeneral Cert.Reference4Ideal.dot_S8192x4096_S4096x6168_S8192x6168_1_0_0_1_n_n none
    (extf .f32 X Cert.Reference4Ideal.Gen.bitsLt_bf16_f32) W
  broadcastInDim S1x8192x3072 ![1, 2] Cert.Reference4Ideal.Gen.bcast_S8192x3072_S1x8192x3072_1_2
    (extractStridedSlice Cert.Reference4Ideal.S8192x3072 ![0, 0] z Cert.Reference4Ideal.Gen.slices_S8192x6168_S8192x3072_0_0)

/-- The same for the sample's tokens. -/
abbrev refS (X : FVec Ideal S64x4096 .bf16) (W : FVec Ideal S4096x6168 .f32) : FVec Ideal S1x64x3072 .f32 :=
  let z : FVec Ideal Cert.Reference4Ideal.S64x6168 .f32 := Host.dotGeneral Cert.Reference4Ideal.dot_S64x4096_S4096x6168_S64x6168_1_0_0_1_n_n none
    (extf .f32 X Cert.Reference4Ideal.Gen.bitsLt_bf16_f32) W
  broadcastInDim S1x64x3072 ![1, 2] Cert.Reference4Ideal.Gen.bcast_S64x3072_S1x64x3072_1_2
    (extractStridedSlice Cert.Reference4Ideal.S64x3072 ![0, 0] z Cert.Reference4Ideal.Gen.slices_S64x6168_S64x3072_0_0)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, t.val / 8, 0]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S4096x6168 .f32) (b : ℕ) : FVec Ideal S512x4096 .bf16 := fun y => W (ix2 (y 1) ⟨(b * 512 + (y 0).val) % 6168, Nat.mod_lt _ (by decide)⟩)

/-- The weight's block at a point, read off the argument. -/
theorem weight (c : Dev nD) (t : Fin cfg0.N) (i : Fin 512) (k : Fin 4096) :
    X0_2 m c t (ix3 0 i k) = m ((c : Thread nD τ).loc main_arg2) (ix2 k ⟨(t.val / 8 * 512 + i.val) % 6168, Nat.mod_lt _ (by decide)⟩) := by
  have hN : t.val < 48 := t.isLt
  unfold X0_2 Pipeline.Window.fill
  rw [dif_pos (moved0_2 t _)]
  simp only [iblk]
  blk_point [iblk, V, idx t]

/-- The scratch buffer after the first point of a column block. -/
theorem first (c : Dev nD) (t : Fin cfg0.N) : k0_pay1 (F := Ideal) (X0_2 m c t) = cols (m ((c : Thread nD τ).loc main_arg2)) (t.val / 8) := by
  funext y
  pointwise [k0_pay1, cols]
  exact weight m c t _ _

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel4Ideal.Gen.facts; letI := Cert.Reference4Ideal.Gen.facts
    Cert.algebraic_Kernel4Ideal_Reference4Ideal := by
  intro m g m' g' hpre hargs
  refine ⟨_, _, (θ_run _ _ _).mono (fun r h c => h c) (Cert.Kernel4Ideal.Value.run_blocks m g), (θ_run _ _ _).mono (fun r h c => ?_) (Cert.Reference4Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference4Ideal.Gen.facts; Cert.quiescent_Reference4Ideal := by
  intro m g _
  exact (θ_run _ _ _).mono (fun r h => ⟨fun c => (h c).2.2, sem_eq_zero_of_no_sems (by decide) r.2⟩) (Cert.Reference4Ideal.Value.run m g)

end Cert.Kernel4Ideal.Keys

end
-- ==== Proof.Values.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

/-! The shared values: each block is its rows times the columns of the weight that a scratch buffer carries along the rows. -/

noncomputable section

namespace Cert.Kernel5Ideal.Values

open Cert.Kernel5Ideal Cert.Kernel5Ideal.Gen Idealize.ShloMosaic Idealize.ShloMosaic.TcCoe Idealize.SL.Sem
open Idealize.ShloMosaic.Pipeline (Dat)

/-- The reference's values of the prompt's tokens. -/
abbrev refP (X : FVec Ideal S8192x4096 .bf16) (W : FVec Ideal S4096x6168 .f32) : FVec Ideal S1x8192x3072 .f32 :=
  let z : FVec Ideal Cert.Reference5Ideal.S8192x6168 .f32 := Host.dotGeneral Cert.Reference5Ideal.dot_S8192x4096_S4096x6168_S8192x6168_1_0_0_1_n_n none
    (extf .f32 X Cert.Reference5Ideal.Gen.bitsLt_bf16_f32) W
  broadcastInDim S1x8192x3072 ![1, 2] Cert.Reference5Ideal.Gen.bcast_S8192x3072_S1x8192x3072_1_2
    (extractStridedSlice Cert.Reference5Ideal.S8192x3072 ![0, 3072] z Cert.Reference5Ideal.Gen.slices_S8192x6168_S8192x3072_0_3072)

/-- The same for the sample's tokens. -/
abbrev refS (X : FVec Ideal S64x4096 .bf16) (W : FVec Ideal S4096x6168 .f32) : FVec Ideal S1x64x3072 .f32 :=
  let z : FVec Ideal Cert.Reference5Ideal.S64x6168 .f32 := Host.dotGeneral Cert.Reference5Ideal.dot_S64x4096_S4096x6168_S64x6168_1_0_0_1_n_n none
    (extf .f32 X Cert.Reference5Ideal.Gen.bitsLt_bf16_f32) W
  broadcastInDim S1x64x3072 ![1, 2] Cert.Reference5Ideal.Gen.bcast_S64x3072_S1x64x3072_1_2
    (extractStridedSlice Cert.Reference5Ideal.S64x3072 ![0, 3072] z Cert.Reference5Ideal.Gen.slices_S64x6168_S64x3072_0_3072)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 6 + t.val / 8, 0]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S4096x6168 .f32) (b : ℕ) : FVec Ideal S512x4096 .bf16 := fun y => W (ix2 (y 1) ⟨((6 + b) * 512 + (y 0).val) % 6168, Nat.mod_lt _ (by decide)⟩)

/-- The weight's block at a point, read off the argument. -/
theorem weight (c : Dev nD) (t : Fin cfg0.N) (i : Fin 512) (k : Fin 4096) :
    X0_2 m c t (ix3 0 i k) = m ((c : Thread nD τ).loc main_arg2) (ix2 k ⟨((6 + t.val / 8) * 512 + i.val) % 6168, Nat.mod_lt _ (by decide)⟩) := by
  have hN : t.val < 48 := t.isLt
  unfold X0_2 Pipeline.Window.fill
  rw [dif_pos (moved0_2 t _)]
  simp only [iblk]
  blk_point [iblk, V, idx t]

/-- The scratch buffer after the first point of a column block. -/
theorem first (c : Dev nD) (t : Fin cfg0.N) : k0_pay1 (F := Ideal) (X0_2 m c t) = cols (m ((c : Thread nD τ).loc main_arg2)) (t.val / 8) := by
  funext y
  pointwise [k0_pay1, cols]
  exact weight m c t _ _

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel5Ideal.Gen.facts; letI := Cert.Reference5Ideal.Gen.facts
    Cert.algebraic_Kernel5Ideal_Reference5Ideal := by
  intro m g m' g' hpre hargs
  refine ⟨_, _, (θ_run _ _ _).mono (fun r h c => h c) (Cert.Kernel5Ideal.Value.run_blocks m g), (θ_run _ _ _).mono (fun r h c => ?_) (Cert.Reference5Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference5Ideal.Gen.facts; Cert.quiescent_Reference5Ideal := by
  intro m g _
  exact (θ_run _ _ _).mono (fun r h => ⟨fun c => (h c).2.2, sem_eq_zero_of_no_sems (by decide) r.2⟩) (Cert.Reference5Ideal.Value.run m g)

end Cert.Kernel5Ideal.Values

end
-- ==== Proof.LogForget.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack

@[expose] public section

set_option maxRecDepth 16384

/-! The log forget gates: each block is the log sigmoid of its rows times the weight's last 24 columns, which a scratch buffer carries
along the rows, padded with zero columns. -/

noncomputable section

namespace Cert.Kernel6Ideal.LogForget

open Cert.Kernel6Ideal Cert.Kernel6Ideal.Gen Idealize.ShloMosaic Idealize.ShloMosaic.TcCoe Idealize.SL.Sem
open Idealize.ShloMosaic.Pipeline (Dat)

/-- The gates before the log sigmoid, for the prompt's tokens. -/
def preP (X : FVec Ideal S8192x4096 .bf16) (W : FVec Ideal S4096x6168 .f32) (b : FVec Ideal S24 .f32) : FVec Ideal Cert.Reference6Ideal.S8192x128 .f32 :=
  let a : FVec Ideal Cert.Reference6Ideal.S8192x24 .f32 := Host.dotGeneral Cert.Reference6Ideal.dot_S8192x4096_S4096x24_S8192x24_1_0_0_1_n_n none (extf .f32 X Cert.Reference6Ideal.Gen.bitsLt_bf16_f32) (extractStridedSlice Cert.Reference6Ideal.S4096x24 ![0, 6144] W Cert.Reference6Ideal.Gen.slices_S4096x6168_S4096x24_0_6144)
  pad Cert.Reference6Ideal.S8192x128 ![0, 0] ![0, 104] ![0, 0] (addf a (broadcastInDim Cert.Reference6Ideal.S8192x24 ![0, 1] Cert.Reference6Ideal.Gen.bcast_S1x24_S8192x24_0_1 (broadcastInDim Cert.Reference6Ideal.S1x24 ![1] Cert.Reference6Ideal.Gen.bcast_S24_S1x24_1 b))) (sitofp (F := Ideal) .f32 (constantI Cert.Reference6Ideal.S_ 32 0#32)) Cert.Reference6Ideal.Gen.pads_S8192x24_S8192x128_000_01040 Cert.Reference6Ideal.Gen.h_S_

/-- The reference's array over these gates. -/
abbrev refP (z : FVec Ideal Cert.Reference6Ideal.S8192x128 .f32) : FVec Ideal S1x8192x128 .f32 :=
  broadcastInDim Cert.Reference6Ideal.S1x8192x128 ![1, 2] Cert.Reference6Ideal.Gen.bcast_S8192x128_S1x8192x128_1_2 (Host.negf (select (cmpf .une (subf (Host.negf z) (broadcastInDim Cert.Reference6Ideal.S8192x128 ![] Cert.Reference6Ideal.Gen.bcast_S_S8192x128 (constant Cert.Reference6Ideal.S_ .f32 0x00000000#32))) (subf (Host.negf z) (broadcastInDim Cert.Reference6Ideal.S8192x128 ![] Cert.Reference6Ideal.Gen.bcast_S_S8192x128 (constant Cert.Reference6Ideal.S_ .f32 0x00000000#32)))) (addf (Host.negf z) (broadcastInDim Cert.Reference6Ideal.S8192x128 ![] Cert.Reference6Ideal.Gen.bcast_S_S8192x128 (constant Cert.Reference6Ideal.S_ .f32 0x00000000#32))) (addf (maximumf (Host.negf z) (broadcastInDim Cert.Reference6Ideal.S8192x128 ![] Cert.Reference6Ideal.Gen.bcast_S_S8192x128 (constant Cert.Reference6Ideal.S_ .f32 0x00000000#32))) (Host.log1p (Host.exp (Host.negf (Host.absf (subf (Host.negf z) (broadcastInDim Cert.Reference6Ideal.S8192x128 ![] Cert.Reference6Ideal.Gen.bcast_S_S8192x128 (constant Cert.Reference6Ideal.S_ .f32 0x00000000#32))))))))))

/-- The same for the sample's tokens. -/
def preS (X : FVec Ideal S64x4096 .bf16) (W : FVec Ideal S4096x6168 .f32) (b : FVec Ideal S24 .f32) : FVec Ideal S64x128 .f32 :=
  let a : FVec Ideal Cert.Reference6Ideal.S64x24 .f32 := Host.dotGeneral Cert.Reference6Ideal.dot_S64x4096_S4096x24_S64x24_1_0_0_1_n_n none (extf .f32 X Cert.Reference6Ideal.Gen.bitsLt_bf16_f32) (extractStridedSlice Cert.Reference6Ideal.S4096x24 ![0, 6144] W Cert.Reference6Ideal.Gen.slices_S4096x6168_S4096x24_0_6144)
  pad Cert.Reference6Ideal.S64x128 ![0, 0] ![0, 104] ![0, 0] (addf a (broadcastInDim Cert.Reference6Ideal.S64x24 ![0, 1] Cert.Reference6Ideal.Gen.bcast_S1x24_S64x24_0_1 (broadcastInDim Cert.Reference6Ideal.S1x24 ![1] Cert.Reference6Ideal.Gen.bcast_S24_S1x24_1 b))) (sitofp (F := Ideal) .f32 (constantI Cert.Reference6Ideal.S_ 32 0#32)) Cert.Reference6Ideal.Gen.pads_S64x24_S64x128_000_01040 Cert.Reference6Ideal.Gen.h_S_

/-- The reference's array over these gates. -/
abbrev refS (z : FVec Ideal S64x128 .f32) : FVec Ideal S1x64x128 .f32 :=
  broadcastInDim Cert.Reference6Ideal.S1x64x128 ![1, 2] Cert.Reference6Ideal.Gen.bcast_S64x128_S1x64x128_1_2 (Host.negf (select (cmpf .une (subf (Host.negf z) (broadcastInDim Cert.Reference6Ideal.S64x128 ![] Cert.Reference6Ideal.Gen.bcast_S_S64x128 (constant Cert.Reference6Ideal.S_ .f32 0x00000000#32))) (subf (Host.negf z) (broadcastInDim Cert.Reference6Ideal.S64x128 ![] Cert.Reference6Ideal.Gen.bcast_S_S64x128 (constant Cert.Reference6Ideal.S_ .f32 0x00000000#32)))) (addf (Host.negf z) (broadcastInDim Cert.Reference6Ideal.S64x128 ![] Cert.Reference6Ideal.Gen.bcast_S_S64x128 (constant Cert.Reference6Ideal.S_ .f32 0x00000000#32))) (addf (maximumf (Host.negf z) (broadcastInDim Cert.Reference6Ideal.S64x128 ![] Cert.Reference6Ideal.Gen.bcast_S_S64x128 (constant Cert.Reference6Ideal.S_ .f32 0x00000000#32))) (Host.log1p (Host.exp (Host.negf (Host.absf (subf (Host.negf z) (broadcastInDim Cert.Reference6Ideal.S64x128 ![] Cert.Reference6Ideal.Gen.bcast_S_S64x128 (constant Cert.Reference6Ideal.S_ .f32 0x00000000#32))))))))))

variable (m : (ℓ : Loc nD τ sig) → Buf (Elt Ideal) ℓ)

/-- Where every window's block sits at grid point `t`. -/
theorem idx : ∀ t : Fin cfg0.N, win0_0.index t = ![t.val, 0] ∧ win0_1.index t = ![0, 0] ∧ win0_2.index t = ![0, 0, 0]
    ∧ win0_3.index t = ![0, 0] ∧ win0_4.index t = ![0, t.val, 0] ∧ win0_5.index t = ![0, 0, 0] :=
  (by decide +kernel : ∀ t : Fin grid0.N, _)

/-- The padded columns of the weight, as the host hands them to the kernel. -/
theorem weight (c : Dev nD) : V m c main_v3 = broadcastInDim S1x128x4096 ![1, 2] bcast_S128x4096_S1x128x4096_1_2
    (pad S128x4096 ![0, 0] ![104, 0] ![0, 0] (extractStridedSlice S24x4096 ![6144, 0] (transpose S6168x4096 [1, 0] (m ((c : Thread nD τ).loc main_arg2)) transposes_S4096x6168_S6168x4096_1_0) slices_S6168x4096_S24x4096_6144_0)
      (sitofp (F := Ideal) .f32 (constantI S_ 32 0#32)) pads_S24x4096_S128x4096_01040_000 h_S_) := by
  unfold V
  simp only [hostOps0, hostOps0_1, hostOps0_2, hostOps0_3, hostOps0_4, List.flatten_cons, List.flatten_nil, List.append_nil, List.cons_append, List.nil_append, StableHlo.TRef.unary, StableHlo.TRef.binary, cast_eq]
  after_results_simp <;> rfl

/-- The padded row of the bias. -/
theorem bias (c : Dev nD) : V m c main_v5 = shapeCast S1x128
    (pad S128 ![0] ![104] ![0] (m ((c : Thread nD τ).loc main_arg3)) (sitofp (F := Ideal) .f32 (constantI S_ 32 0#32)) pads_S24_S128_01040 h_S_) shapeCasts_S128_S1x128 := by
  unfold V
  simp only [hostOps0, hostOps0_1, hostOps0_2, hostOps0_3, hostOps0_4, List.flatten_cons, List.flatten_nil, List.append_nil, List.cons_append, List.nil_append, StableHlo.TRef.unary, StableHlo.TRef.binary, cast_eq]
  after_results_simp <;> rfl

/-- The padded columns of the weight, as rows. -/
def wide (W : FVec Ideal S4096x6168 .f32) : FVec Ideal S1x128x4096 .f32 := fun y =>
  if h : (y 1).val < 24 then W (ix2 (y 2) ⟨6144 + (y 1).val, by omega⟩) else 0

/-- The same as the scratch buffer holds them. -/
def cols (W : FVec Ideal S4096x6168 .f32) : FVec Ideal S128x4096 .bf16 := fun y =>
  if h : (y 0).val < 24 then W (ix2 (y 1) ⟨6144 + (y 0).val, by omega⟩) else 0

/-- The padded bias, as a row. -/
def row (b : FVec Ideal S24 .f32) : FVec Ideal S1x128 .f32 := fun y => if h : (y 1).val < 24 then b (ix1 ⟨(y 1).val, h⟩) else 0

/-- The integer zero, as a number. -/
theorem zero_word : FloatOps.sitofp (F := Ideal) .f32 (0#32) = (0 : EReal) := by
  show (((0#32 : BitVec 32).toInt : ℝ) : EReal) = 0
  rw [show (0#32 : BitVec 32).toInt = 0 by decide]
  simp

/-- The weight's operand is the padded columns. -/
theorem weight_wide (c : Dev nD) : V m c main_v3 = wide (m ((c : Thread nD τ).loc main_arg2)) := by
  rw [weight]
  funext y
  pointwise [wide]
  simp only [zero_word]

/-- The bias's operand is the padded row. -/
theorem bias_row (c : Dev nD) : V m c main_v5 = row (m ((c : Thread nD τ).loc main_arg3)) := by
  rw [bias]
  funext y
  pointwise [row]
  rw [zero_word]
  refine dite_congr ?_ ?_ ?_
  · exact propext ⟨fun h => h (0 : Fin 1), fun h (a : Fin 1) => by match a with | ⟨0, _⟩ => exact h⟩
  · intro h; rfl
  · intro h; rfl

/-- The weight's operand as a point's block holds it. -/
theorem weight_block (c : Dev nD) (t : Fin cfg0.N) (i : Fin 128) (k : Fin 4096) :
    iblk m c 2 t (ix3 0 i k) = wide (m ((c : Thread nD τ).loc main_arg2)) (ix3 0 i k) := by
  simp only [iblk]
  rw [show V m c (Pipeline.arrRef (cfgs 0).spec 2) = _ from weight_wide m c]
  generalize wide (m ((c : Thread nD τ).loc main_arg2)) = U
  blk_point [idx t]

/-- The scratch buffer after the first point. -/
theorem first (c : Dev nD) (t : Fin cfg0.N) : k0_pay1 (F := Ideal) (iblk m c 2 t) = cols (m ((c : Thread nD τ).loc main_arg2)) := by
  funext y
  pointwise [k0_pay1]
  exact weight_block m c t _ _

/-- The bias as every point reads it. -/
theorem bias_block (c : Dev nD) (t : Fin cfg0.N) : (iblk m c 3 t : FVec Ideal S1x128 .f32) = row (m ((c : Thread nD τ).loc main_arg3)) := by
  funext y
  simp only [iblk]
  rw [show V m c (Pipeline.arrRef (cfgs 0).spec 3) = _ from bias_row m c]
  generalize row (m ((c : Thread nD τ).loc main_arg3)) = U
  blk_point [idx t]

/-- The scratch buffer after every point. -/
theorem held (c : Dev nD) : ∀ (n : ℕ) (hn : n < cfg0.N), (outsAt0 m c n hn).2.2 = cols (m ((c : Thread nD τ).loc main_arg2)) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · by_cases h1 : (n + 1) % 8 = 7
      · rw [outsAt0_C m c ⟨n + 1, hn⟩ h0 h1]; dsimp only [sout0_C_0]; simp only [Nat.add_sub_cancel]; exact hp
      · rw [outsAt0_B m c ⟨n + 1, hn⟩ h0 h1]; dsimp only [sout0_B_0]; simp only [Nat.add_sub_cancel]; exact hp

/-- Two log sigmoids of equal numbers are equal, however the negation is spelt. -/
theorem lsig_congr {a b : EReal} [Decidable (0 - a ≠ 0 - a)] [Decidable (-b ≠ -b)] (h : a = b) :
    (0 - if 0 - a ≠ 0 - a then 0 - a else max (0 - a) 0 + Ideal.log1p (Ideal.exp (0 - FloatOps.absf (F := Ideal) (φ := .f32) (0 - a))))
      = -if -b ≠ -b then -b else max (-b) 0 + Ideal.log1p (Ideal.exp (-FloatOps.absf (F := Ideal) (φ := .f32) (-b))) := by
  subst h
  simp only [zero_sub, ne_eq, not_true_eq_false, if_false]

/-- What a point stores for the prompt is the reference at the block's place. -/
theorem pointP (c : Dev nD) (t : Fin cfg0.N) (y) : k0_pay2 (F := Ideal) (iblk m c 0 t) (cols (m ((c : Thread nD τ).loc main_arg2))) (row (m ((c : Thread nD τ).loc main_arg3))) y
    = refP (preP (m ((c : Thread nD τ).loc main_arg0)) (m ((c : Thread nD τ).loc main_arg2)) (m ((c : Thread nD τ).loc main_arg3))) (((cfg0.win 4).blk t).view.emb y) := by
  pointwise [k0_pay2, refP, cols, row]
  refine lsig_congr (b := preP _ _ _ _) ?_
  pointwise [preP]
  have e : (((View.whole main_v6_0).slice ((win0 4).rect t)).emb y 2).val = (y 2).val := by
    refine Eq.trans (b := win0_4.index t (2 : Fin 3) * 128 + 1 * (y 2).val) rfl ?_
    rw [show win0_4.index t (2 : Fin 3) = 0 by rw [idx t |>.2.2.2.2.1]; rfl]; omega
  by_cases hy : (y 2).val < 24
  · have e1 : (((View.whole main_v6_0).slice ((win0 4).rect t)).emb y 2).val < 24 := by rw [e]; exact hy
    simp only [dif_pos hy, dif_pos e1]
    blk_point [iblk, V, idx t]
  · have e1 : ¬(((View.whole main_v6_0).slice ((win0 4).rect t)).emb y 2).val < 24 := by rw [e]; exact hy
    simp only [dif_neg hy, dif_neg e1, mul_zero, Finset.sum_const_zero, add_zero, zero_word]

/-- What the last point stores for the sample is the reference. -/
theorem pointS (c : Dev nD) (t : Fin cfg0.N) (y) : k0_pay3 (F := Ideal) (iblk m c 1 t) (cols (m ((c : Thread nD τ).loc main_arg2))) (row (m ((c : Thread nD τ).loc main_arg3))) y
    = refS (preS (m ((c : Thread nD τ).loc main_arg1)) (m ((c : Thread nD τ).loc main_arg2)) (m ((c : Thread nD τ).loc main_arg3))) (((cfg0.win 5).blk t).view.emb y) := by
  pointwise [k0_pay3, refS, cols, row]
  refine lsig_congr (b := preS _ _ _ _) ?_
  pointwise [preS]
  have e : (((View.whole main_v6_1).slice ((win0 5).rect t)).emb y 2).val = (y 2).val := by
    refine Eq.trans (b := win0_5.index t (2 : Fin 3) * 128 + 1 * (y 2).val) rfl ?_
    rw [show win0_5.index t (2 : Fin 3) = 0 by rw [idx t |>.2.2.2.2.2]; rfl]; omega
  by_cases hy : (y 2).val < 24
  · have e1 : (((View.whole main_v6_1).slice ((win0 5).rect t)).emb y 2).val < 24 := by rw [e]; exact hy
    simp only [dif_pos hy, dif_pos e1]
    blk_point [iblk, V, idx t]
  · have e1 : ¬(((View.whole main_v6_1).slice ((win0 5).rect t)).emb y 2).val < 24 := by rw [e]; exact hy
    simp only [dif_neg hy, dif_neg e1, mul_zero, Finset.sum_const_zero, add_zero, zero_word]

/-- The prompt's array after the run. -/
theorem finalP (c : Dev nD) : (dats m 0 c).arrAt 4 (cfgs 0).N
    = refP (preP (m ((c : Thread nD τ).loc main_arg0)) (m ((c : Thread nD τ).loc main_arg2)) (m ((c : Thread nD τ).loc main_arg3))) := by
  refine (dats m 0 c).arrAt_eq_of_covers 4 _ (by decide +kernel) fun t hf y => ?_
  blk_simp
  rw [after0_4]
  by_cases h0 : t.val % 8 = 0
  · rw [outsAt0_A m c t h0 (by omega)]; frame_out; rw [first, bias_block]; exact pointP m c t y
  · by_cases h1 : t.val % 8 = 7
    · rw [outsAt0_C m c t h0 h1, held]; frame_out; rw [read_unread_whole, bias_block]; exact pointP m c t y
    · rw [outsAt0_B m c t h0 h1, held]; frame_out; rw [read_unread_whole, bias_block]; exact pointP m c t y

/-- The sample's array after the run. -/
theorem finalS (c : Dev nD) : (dats m 0 c).arrAt 5 (cfgs 0).N
    = refS (preS (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  have h1 : t.val % 8 = 7 := (flush0_5 t).mp hf
  have h0 : ¬t.val % 8 = 0 := by omega
  rw [after0_5, outsAt0_C m c t h0 h1, held]; frame_out; rw [read_unread_whole, bias_block]; exact pointS m c t y

/-- Kernel and reference leave the same two arrays. -/
theorem values : letI := Cert.Kernel6Ideal.Gen.facts; letI := Cert.Reference6Ideal.Gen.facts
    Cert.algebraic_Kernel6Ideal_Reference6Ideal := by
  intro m g m' g' hpre hargs
  refine ⟨_, _, (θ_run _ _ _).mono (fun r h c => h c) (Cert.Kernel6Ideal.Value.run_blocks m g), (θ_run _ _ _).mono (fun r h c => ?_) (Cert.Reference6Ideal.Value.run m' g')⟩
  obtain ⟨h0, h1, hk⟩ := h c
  obtain ⟨a0, a1, a2, a3⟩ := hargs c
  refine ⟨?_, ?_, hk⟩
  · rw [h0, a0, a2, a3]
    exact (finalP m c).symm
  · rw [h1, a1, a2, a3]
    exact (finalS m c).symm

/-- The reference runs to its end and leaves its arguments unchanged. -/
theorem reference_frame : letI := Cert.Reference6Ideal.Gen.facts; Cert.quiescent_Reference6Ideal := by
  intro m g _
  exact (θ_run _ _ _).mono (fun r h => ⟨fun c => (h c).2.2, sem_eq_zero_of_no_sems (by decide) r.2⟩) (Cert.Reference6Ideal.Value.run m g)

end Cert.Kernel6Ideal.LogForget

end
-- ==== Proof.MemKeys.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

@[expose] public section

set_option maxRecDepth 16384

/-! The keys of the prompt's memory, of both layers: each block is the memory's rows times a block of a layer's columns. -/

noncomputable section

namespace Cert.Kernel7Ideal.MemKeys

open Cert.Kernel7Ideal Cert.Kernel7Ideal.Gen Idealize.ShloMosaic Idealize.ShloMosaic.TcCoe Idealize.SL.Sem
open Idealize.ShloMosaic.Pipeline (Dat)

/-- The reference's keys of the memory. -/
abbrev ref (X : FVec Ideal S1024x4096 .bf16) (W : FVec Ideal S2x4096x2048 .f32) : FVec Ideal S2x1024x1024 .f32 :=
  let z : FVec Ideal Cert.Reference7Ideal.S2x2048x1024 .f32 := Host.dotGeneral Cert.Reference7Ideal.dot_S2x4096x2048_S1024x4096_S2x2048x1024_1_1_02_0_n_n none
    W (extf .f32 X Cert.Reference7Ideal.Gen.bitsLt_bf16_f32)
  extractStridedSlice S2x1024x1024 ![0, 0, 0] (transpose Cert.Reference7Ideal.S2x1024x2048 [0, 2, 1] z Cert.Reference7Ideal.Gen.transposes_S2x2048x1024_S2x1024x2048_0_2_1)
    Cert.Reference7Ideal.Gen.slices_S2x1024x2048_S2x1024x1024_0_0_0

variable (m : (ℓ : Loc nD τ sig) → Buf (Elt Ideal) ℓ)

/-- Where every window's block sits at grid point `t`. -/
theorem idx : ∀ t : Fin cfg0.N, win0_0.index t = ![0, 0] ∧ win0_1.index t = ![t.val / 2, 0, t.val % 2] ∧ win0_2.index t = ![t.val / 2, 0, t.val % 2] :=
  (by decide +kernel : ∀ t : Fin grid0.N, _)

/-- What a point stores is the reference at the block's place. -/
theorem point (c : Dev nD) (t : Fin cfg0.N) (y) : k0_pay2 (F := Ideal) (iblk m c 0 t) (k0_pay1 (iblk m c 1 t)) y
    = ref (m ((c : Thread nD τ).loc main_arg0)) (m ((c : Thread nD τ).loc main_arg1)) (((cfg0.win 2).blk t).view.emb y) := by
  pointwise [k0_pay1, k0_pay2, ref]
  refine Finset.sum_congr rfl fun x _ => (mul_comm _ _).trans ?_
  blk_point [iblk, V, idx t]

/-- The array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out; exact point m c t y

/-- Kernel and reference leave the same array. -/
theorem values : letI := Cert.Kernel7Ideal.Gen.facts; letI := Cert.Reference7Ideal.Gen.facts
    Cert.algebraic_Kernel7Ideal_Reference7Ideal := by
  intro m g m' g' hpre hargs
  refine ⟨_, (θ_run _ _ _).mono (fun r h c => h c) (Cert.Kernel7Ideal.Value.run_blocks m g), (θ_run _ _ _).mono (fun r h c => ?_) (Cert.Reference7Ideal.Value.run m' g')⟩
  obtain ⟨h0, hk⟩ := h c
  obtain ⟨a0, a1⟩ := hargs c
  refine ⟨?_, hk⟩
  rw [h0, a0, a1]
  exact (final m c).symm

/-- The reference runs to its end and leaves its arguments unchanged. -/
theorem reference_frame : letI := Cert.Reference7Ideal.Gen.facts; Cert.quiescent_Reference7Ideal := by
  intro m g _
  exact (θ_run _ _ _).mono (fun r h => ⟨fun c => (h c).2, sem_eq_zero_of_no_sems (by decide) r.2⟩) (Cert.Reference7Ideal.Value.run m g)

end Cert.Kernel7Ideal.MemKeys

end
-- ==== Proof.MemValues.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

/-! The values of the prompt's memory, of both layers: each block is the memory's rows times a block of a layer's columns. -/

noncomputable section

namespace Cert.Kernel8Ideal.MemValues

open Cert.Kernel8Ideal Cert.Kernel8Ideal.Gen Idealize.ShloMosaic Idealize.ShloMosaic.TcCoe Idealize.SL.Sem
open Idealize.ShloMosaic.Pipeline (Dat)

/-- The reference's values of the memory. -/
abbrev ref (X : FVec Ideal S1024x4096 .bf16) (W : FVec Ideal S2x4096x2048 .f32) : FVec Ideal S2x1024x1024 .f32 :=
  let z : FVec Ideal Cert.Reference8Ideal.S2x2048x1024 .f32 := Host.dotGeneral Cert.Reference8Ideal.dot_S2x4096x2048_S1024x4096_S2x2048x1024_1_1_02_0_n_n none
    W (extf .f32 X Cert.Reference8Ideal.Gen.bitsLt_bf16_f32)
  extractStridedSlice S2x1024x1024 ![0, 0, 1024] (transpose Cert.Reference8Ideal.S2x1024x2048 [0, 2, 1] z Cert.Reference8Ideal.Gen.transposes_S2x2048x1024_S2x1024x2048_0_2_1)
    Cert.Reference8Ideal.Gen.slices_S2x1024x2048_S2x1024x1024_0_0_1024

variable (m : (ℓ : Loc nD τ sig) → Buf (Elt Ideal) ℓ)

/-- Where every window's block sits at grid point `t`. -/
theorem idx : ∀ t : Fin cfg0.N, win0_0.index t = ![0, 0] ∧ win0_1.index t = ![t.val / 2, 0, 2 + t.val % 2] ∧ win0_2.index t = ![t.val / 2, 0, t.val % 2] :=
  (by decide +kernel : ∀ t : Fin grid0.N, _)

/-- What a point stores is the reference at the block's place. -/
theorem point (c : Dev nD) (t : Fin cfg0.N) (y) : k0_pay2 (F := Ideal) (iblk m c 0 t) (k0_pay1 (iblk m c 1 t)) y
    = ref (m ((c : Thread nD τ).loc main_arg0)) (m ((c : Thread nD τ).loc main_arg1)) (((cfg0.win 2).blk t).view.emb y) := by
  pointwise [k0_pay1, k0_pay2, ref]
  refine Finset.sum_congr rfl fun x _ => (mul_comm _ _).trans ?_
  blk_point [iblk, V, idx t]

/-- The array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out; exact point m c t y

/-- Kernel and reference leave the same array. -/
theorem values : letI := Cert.Kernel8Ideal.Gen.facts; letI := Cert.Reference8Ideal.Gen.facts
    Cert.algebraic_Kernel8Ideal_Reference8Ideal := by
  intro m g m' g' hpre hargs
  refine ⟨_, (θ_run _ _ _).mono (fun r h c => h c) (Cert.Kernel8Ideal.Value.run_blocks m g), (θ_run _ _ _).mono (fun r h c => ?_) (Cert.Reference8Ideal.Value.run m' g')⟩
  obtain ⟨h0, hk⟩ := h c
  obtain ⟨a0, a1⟩ := hargs c
  refine ⟨?_, hk⟩
  rw [h0, a0, a1]
  exact (final m c).symm

/-- The reference runs to its end and leaves its arguments unchanged. -/
theorem reference_frame : letI := Cert.Reference8Ideal.Gen.facts; Cert.quiescent_Reference8Ideal := by
  intro m g _
  exact (θ_run _ _ _).mono (fun r h => ⟨fun c => (h c).2, sem_eq_zero_of_no_sems (by decide) r.2⟩) (Cert.Reference8Ideal.Value.run m g)

end Cert.Kernel8Ideal.MemValues

end
-- ==== Proof.StepPrompt.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

set_option maxRecDepth 16384

/-! The residual step of the prompt's rows: the stream plus the normalised branch, block of rows by block of rows. -/

noncomputable section

namespace Cert.Kernel9Ideal.StepPrompt

open Cert.Kernel9Ideal Cert.Kernel9Ideal.Gen Idealize.ShloMosaic Idealize.ShloMosaic.TcCoe Idealize.SL.Sem
open Idealize.ShloMosaic.Pipeline (Dat)

/-- The reference's stream after the step. -/
abbrev ref (X H : FVec Ideal S8192x4096 .f32) (G : FVec Ideal S4096 .f32) : FVec Ideal S8192x4096 .f32 :=
  let s : FVec Ideal Cert.Reference9Ideal.S8192 .f32 := Host.reduceAdd (mulf X X) (constant Cert.Reference9Ideal.S_ .f32 0x00000000#32) Cert.Reference9Ideal.Gen.reducesTo_S8192x4096_S8192_d1 Cert.Reference9Ideal.Gen.h_S_
  addf H (mulf (mulf X (broadcastInDim S8192x4096 ![0, 1] Cert.Reference9Ideal.Gen.bcast_S8192x1_S8192x4096_0_1 (Host.rsqrt (addf (Host.divf
      (broadcastInDim Cert.Reference9Ideal.S8192x1 ![0] Cert.Reference9Ideal.Gen.bcast_S8192_S8192x1_0 s)
      (broadcastInDim Cert.Reference9Ideal.S8192x1 ![] Cert.Reference9Ideal.Gen.bcast_S_S8192x1 (constant Cert.Reference9Ideal.S_ .f32 0x45800000#32)))
      (broadcastInDim Cert.Reference9Ideal.S8192x1 ![] Cert.Reference9Ideal.Gen.bcast_S_S8192x1 (constant Cert.Reference9Ideal.S_ .f32 0x358637BD#32))))))
    (broadcastInDim S8192x4096 ![0, 1] Cert.Reference9Ideal.Gen.bcast_S1x4096_S8192x4096_0_1 (broadcastInDim S1x4096 ![1] Cert.Reference9Ideal.Gen.bcast_S4096_S1x4096_1 G)))

variable (m : (ℓ : Loc nD τ sig) → Buf (Elt Ideal) ℓ)

/-- Where every window's block sits at grid point `t`. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- What a point stores is the reference at the block's place. -/
theorem point (c : Dev nD) (t : Fin cfg0.N) (y) : k0_pay1 (F := Ideal) (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref]
  blk_point [iblk, V, idx t]

/-- The array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out; exact point m c t y

/-- Kernel and reference leave the same array. -/
theorem values : letI := Cert.Kernel9Ideal.Gen.facts; letI := Cert.Reference9Ideal.Gen.facts
    Cert.algebraic_Kernel9Ideal_Reference9Ideal := by
  intro m g m' g' hpre hargs
  refine ⟨_, (θ_run _ _ _).mono (fun r h c => h c) (Cert.Kernel9Ideal.Value.run_blocks m g), (θ_run _ _ _).mono (fun r h c => ?_) (Cert.Reference9Ideal.Value.run m' g')⟩
  obtain ⟨h0, hk⟩ := h c
  obtain ⟨a0, a1, a2⟩ := hargs c
  refine ⟨?_, hk⟩
  rw [h0, a0, a1, a2]
  exact (final m c).symm

/-- The reference runs to its end and leaves its arguments unchanged. -/
theorem reference_frame : letI := Cert.Reference9Ideal.Gen.facts; Cert.quiescent_Reference9Ideal := by
  intro m g _
  exact (θ_run _ _ _).mono (fun r h => ⟨fun c => (h c).2, sem_eq_zero_of_no_sems (by decide) r.2⟩) (Cert.Reference9Ideal.Value.run m g)

end Cert.Kernel9Ideal.StepPrompt

end
-- ==== Proof.StepSample.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

set_option maxRecDepth 16384

/-! The residual step of the sample's rows: the stream plus the normalised branch, block of rows by block of rows. -/

noncomputable section

namespace Cert.Kernel10Ideal.StepSample

open Cert.Kernel10Ideal Cert.Kernel10Ideal.Gen Idealize.ShloMosaic Idealize.ShloMosaic.TcCoe Idealize.SL.Sem
open Idealize.ShloMosaic.Pipeline (Dat)

/-- The reference's stream after the step. -/
abbrev ref (X H : FVec Ideal S64x4096 .f32) (G : FVec Ideal S4096 .f32) : FVec Ideal S64x4096 .f32 :=
  let s : FVec Ideal Cert.Reference10Ideal.S64 .f32 := Host.reduceAdd (mulf X X) (constant Cert.Reference10Ideal.S_ .f32 0x00000000#32) Cert.Reference10Ideal.Gen.reducesTo_S64x4096_S64_d1 Cert.Reference10Ideal.Gen.h_S_
  addf H (mulf (mulf X (broadcastInDim S64x4096 ![0, 1] Cert.Reference10Ideal.Gen.bcast_S64x1_S64x4096_0_1 (Host.rsqrt (addf (Host.divf
      (broadcastInDim Cert.Reference10Ideal.S64x1 ![0] Cert.Reference10Ideal.Gen.bcast_S64_S64x1_0 s)
      (broadcastInDim Cert.Reference10Ideal.S64x1 ![] Cert.Reference10Ideal.Gen.bcast_S_S64x1 (constant Cert.Reference10Ideal.S_ .f32 0x45800000#32)))
      (broadcastInDim Cert.Reference10Ideal.S64x1 ![] Cert.Reference10Ideal.Gen.bcast_S_S64x1 (constant Cert.Reference10Ideal.S_ .f32 0x358637BD#32))))))
    (broadcastInDim S64x4096 ![0, 1] Cert.Reference10Ideal.Gen.bcast_S1x4096_S64x4096_0_1 (broadcastInDim S1x4096 ![1] Cert.Reference10Ideal.Gen.bcast_S4096_S1x4096_1 G)))

variable (m : (ℓ : Loc nD τ sig) → Buf (Elt Ideal) ℓ)

/-- Where every window's block sits at grid point `t`. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- What a point stores is the reference at the block's place. -/
theorem point (c : Dev nD) (t : Fin cfg0.N) (y) : k0_pay1 (F := Ideal) (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref]
  blk_point [iblk, V, idx t]

/-- The array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out; exact point m c t y

/-- Kernel and reference leave the same array. -/
theorem values : letI := Cert.Kernel10Ideal.Gen.facts; letI := Cert.Reference10Ideal.Gen.facts
    Cert.algebraic_Kernel10Ideal_Reference10Ideal := by
  intro m g m' g' hpre hargs
  refine ⟨_, (θ_run _ _ _).mono (fun r h c => h c) (Cert.Kernel10Ideal.Value.run_blocks m g), (θ_run _ _ _).mono (fun r h c => ?_) (Cert.Reference10Ideal.Value.run m' g')⟩
  obtain ⟨h0, hk⟩ := h c
  obtain ⟨a0, a1, a2⟩ := hargs c
  refine ⟨?_, hk⟩
  rw [h0, a0, a1, a2]
  exact (final m c).symm

/-- The reference runs to its end and leaves its arguments unchanged. -/
theorem reference_frame : letI := Cert.Reference10Ideal.Gen.facts; Cert.quiescent_Reference10Ideal := by
  intro m g _
  exact (θ_run _ _ _).mono (fun r h => ⟨fun c => (h c).2, sem_eq_zero_of_no_sems (by decide) r.2⟩) (Cert.Reference10Ideal.Value.run m g)

end Cert.Kernel10Ideal.StepSample

end
-- ==== Proof.MixQuery.lean ====
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

/-! The first layer's query with its SiLU: each block is its rows times the columns of the weight that a scratch buffer carries along the rows. -/

noncomputable section

namespace Cert.Kernel11Ideal.MixQuery

open Cert.Kernel11Ideal Cert.Kernel11Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x13312 .f32) : FVec Ideal S1x8192x3072 .f32 :=
  let z : FVec Ideal Cert.Reference11Ideal.S8192x13312 .f32 := Host.dotGeneral Cert.Reference11Ideal.dot_S8192x4096_S4096x13312_S8192x13312_1_0_0_1_n_n none
    (extf .f32 X Cert.Reference11Ideal.Gen.bitsLt_bf16_f32) (shapeCast _ W Cert.Reference11Ideal.Gen.shapeCasts_S1x4096x13312_S4096x13312)
  broadcastInDim S1x8192x3072 ![1, 2] Cert.Reference11Ideal.Gen.bcast_S8192x3072_S1x8192x3072_1_2
    (mulf (extractStridedSlice Cert.Reference11Ideal.S8192x3072 ![0, 0] z Cert.Reference11Ideal.Gen.slices_S8192x13312_S8192x3072_0_0)
      (Host.divf (broadcastInDim Cert.Reference11Ideal.S8192x3072 ![] Cert.Reference11Ideal.Gen.bcast_S_S8192x3072 (constant Cert.Reference11Ideal.S_ .f32 0x3F800000#32)) (addf (broadcastInDim Cert.Reference11Ideal.S8192x3072 ![] Cert.Reference11Ideal.Gen.bcast_S_S8192x3072 (constant Cert.Reference11Ideal.S_ .f32 0x3F800000#32)) (Host.exp (Host.negf (extractStridedSlice Cert.Reference11Ideal.S8192x3072 ![0, 0] z Cert.Reference11Ideal.Gen.slices_S8192x13312_S8192x3072_0_0))))))

/-- The same for the sample's tokens. -/
abbrev refS (X : FVec Ideal S64x4096 .bf16) (W : FVec Ideal S1x4096x13312 .f32) : FVec Ideal S1x64x3072 .f32 :=
  let z : FVec Ideal Cert.Reference11Ideal.S64x13312 .f32 := Host.dotGeneral Cert.Reference11Ideal.dot_S64x4096_S4096x13312_S64x13312_1_0_0_1_n_n none
    (extf .f32 X Cert.Reference11Ideal.Gen.bitsLt_bf16_f32) (shapeCast _ W Cert.Reference11Ideal.Gen.shapeCasts_S1x4096x13312_S4096x13312)
  broadcastInDim S1x64x3072 ![1, 2] Cert.Reference11Ideal.Gen.bcast_S64x3072_S1x64x3072_1_2
    (mulf (extractStridedSlice Cert.Reference11Ideal.S64x3072 ![0, 0] z Cert.Reference11Ideal.Gen.slices_S64x13312_S64x3072_0_0)
      (Host.divf (broadcastInDim Cert.Reference11Ideal.S64x3072 ![] Cert.Reference11Ideal.Gen.bcast_S_S64x3072 (constant Cert.Reference11Ideal.S_ .f32 0x3F800000#32)) (addf (broadcastInDim Cert.Reference11Ideal.S64x3072 ![] Cert.Reference11Ideal.Gen.bcast_S_S64x3072 (constant Cert.Reference11Ideal.S_ .f32 0x3F800000#32)) (Host.exp (Host.negf (extractStridedSlice Cert.Reference11Ideal.S64x3072 ![0, 0] z Cert.Reference11Ideal.Gen.slices_S64x13312_S64x3072_0_0))))))

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x13312 .f32) (b : ℕ) : FVec Ideal S4096x512 .bf16 := fun y => W (ix3 0 (y 0) ⟨(b * 512 + (y 1).val) % 13312, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 48 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- The two SiLUs of equal numbers are equal. -/
theorem silu_congr {a b : EReal} (h : a = b) : a * Ideal.logistic a = b * Ideal.div 1 (1 + Ideal.exp (-b)) := by
  subst h; rfl

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 48 := t.isLt
  pointwise [k0_pay2, refP, cols]
  refine silu_congr ?_
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 48 := t.isLt
  pointwise [k0_pay3, refS, cols]
  refine silu_congr ?_
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel11Ideal.Gen.facts; letI := Cert.Reference11Ideal.Gen.facts
    Cert.algebraic_Kernel11Ideal_Reference11Ideal := by
  intro m g m' g' hpre hargs
  refine ⟨_, _, (θ_run _ _ _).mono (fun r h c => h c) (Cert.Kernel11Ideal.Value.run_blocks m g), (θ_run _ _ _).mono (fun r h c => ?_) (Cert.Reference11Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference11Ideal.Gen.facts; Cert.quiescent_Reference11Ideal := by
  intro m g _
  exact (θ_run _ _ _).mono (fun r h => ⟨fun c => (h c).2.2, sem_eq_zero_of_no_sems (by decide) r.2⟩) (Cert.Reference11Ideal.Value.run m g)

end Cert.Kernel11Ideal.MixQuery

end
-- ==== Proof.MixForget.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

/-! The first layer's forget gates: each block is the bounded sigmoid of its rows times the columns of the weight that a scratch buffer carries along the rows. -/

noncomputable section

namespace Cert.Kernel12Ideal.MixForget

open Cert.Kernel12Ideal Cert.Kernel12Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x13312 .f32) (L : FVec Ideal S3072 .f32) : FVec Ideal S1x8192x3072 .f32 :=
  let z : FVec Ideal Cert.Reference12Ideal.S8192x13312 .f32 := Host.dotGeneral Cert.Reference12Ideal.dot_S8192x4096_S4096x13312_S8192x13312_1_0_0_1_n_n none
    (extf .f32 X Cert.Reference12Ideal.Gen.bitsLt_bf16_f32) (shapeCast _ W Cert.Reference12Ideal.Gen.shapeCasts_S1x4096x13312_S4096x13312)
  broadcastInDim S1x8192x3072 ![1, 2] Cert.Reference12Ideal.Gen.bcast_S8192x3072_S1x8192x3072_1_2
    (addf (broadcastInDim Cert.Reference12Ideal.S8192x3072 ![0, 1] Cert.Reference12Ideal.Gen.bcast_S1x3072_S8192x3072_0_1 (broadcastInDim Cert.Reference12Ideal.S1x3072 ![1] Cert.Reference12Ideal.Gen.bcast_S3072_S1x3072_1 L)) (mulf (broadcastInDim Cert.Reference12Ideal.S8192x3072 ![0, 1] Cert.Reference12Ideal.Gen.bcast_S1x3072_S8192x3072_0_1 (broadcastInDim Cert.Reference12Ideal.S1x3072 ![1] Cert.Reference12Ideal.Gen.bcast_S3072_S1x3072_1 (subf (broadcastInDim S3072 ![] Cert.Reference12Ideal.Gen.bcast_S_S3072 (constant Cert.Reference12Ideal.S_ .f32 0x3F800000#32)) L)))
      (Host.divf (broadcastInDim Cert.Reference12Ideal.S8192x3072 ![] Cert.Reference12Ideal.Gen.bcast_S_S8192x3072 (constant Cert.Reference12Ideal.S_ .f32 0x3F800000#32)) (addf (broadcastInDim Cert.Reference12Ideal.S8192x3072 ![] Cert.Reference12Ideal.Gen.bcast_S_S8192x3072 (constant Cert.Reference12Ideal.S_ .f32 0x3F800000#32)) (Host.exp (Host.negf (extractStridedSlice Cert.Reference12Ideal.S8192x3072 ![0, 3072] z Cert.Reference12Ideal.Gen.slices_S8192x13312_S8192x3072_0_3072)))))))

/-- The same for the sample's tokens. -/
abbrev refS (X : FVec Ideal S64x4096 .bf16) (W : FVec Ideal S1x4096x13312 .f32) (L : FVec Ideal S3072 .f32) : FVec Ideal S1x64x3072 .f32 :=
  let z : FVec Ideal Cert.Reference12Ideal.S64x13312 .f32 := Host.dotGeneral Cert.Reference12Ideal.dot_S64x4096_S4096x13312_S64x13312_1_0_0_1_n_n none
    (extf .f32 X Cert.Reference12Ideal.Gen.bitsLt_bf16_f32) (shapeCast _ W Cert.Reference12Ideal.Gen.shapeCasts_S1x4096x13312_S4096x13312)
  broadcastInDim S1x64x3072 ![1, 2] Cert.Reference12Ideal.Gen.bcast_S64x3072_S1x64x3072_1_2
    (addf (broadcastInDim Cert.Reference12Ideal.S64x3072 ![0, 1] Cert.Reference12Ideal.Gen.bcast_S1x3072_S64x3072_0_1 (broadcastInDim Cert.Reference12Ideal.S1x3072 ![1] Cert.Reference12Ideal.Gen.bcast_S3072_S1x3072_1 L)) (mulf (broadcastInDim Cert.Reference12Ideal.S64x3072 ![0, 1] Cert.Reference12Ideal.Gen.bcast_S1x3072_S64x3072_0_1 (broadcastInDim Cert.Reference12Ideal.S1x3072 ![1] Cert.Reference12Ideal.Gen.bcast_S3072_S1x3072_1 (subf (broadcastInDim S3072 ![] Cert.Reference12Ideal.Gen.bcast_S_S3072 (constant Cert.Reference12Ideal.S_ .f32 0x3F800000#32)) L)))
      (Host.divf (broadcastInDim Cert.Reference12Ideal.S64x3072 ![] Cert.Reference12Ideal.Gen.bcast_S_S64x3072 (constant Cert.Reference12Ideal.S_ .f32 0x3F800000#32)) (addf (broadcastInDim Cert.Reference12Ideal.S64x3072 ![] Cert.Reference12Ideal.Gen.bcast_S_S64x3072 (constant Cert.Reference12Ideal.S_ .f32 0x3F800000#32)) (Host.exp (Host.negf (extractStridedSlice Cert.Reference12Ideal.S64x3072 ![0, 3072] z Cert.Reference12Ideal.Gen.slices_S64x13312_S64x3072_0_3072)))))))

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, 6 + t.val / 8]
    ∧ win0_3.index t = ![0, t.val / 8]
    ∧ win0_4.index t = ![0, t.val % 8, t.val / 8] ∧ win0_5.index t = ![0, 0, t.val / 8] :=
  (by decide +kernel : ∀ t : Fin grid0.N, _)

/-- The columns of the weight that column block `b` multiplies by, as the scratch buffer holds them. -/
def cols (W : FVec Ideal S1x4096x13312 .f32) (b : ℕ) : FVec Ideal S4096x512 .bf16 := fun y => W (ix3 0 (y 0) ⟨((6 + b) * 512 + (y 1).val) % 13312, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 48 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- Two forget gates of equal bounds and equal numbers are equal. -/
theorem fgate_congr {k l a b : EReal} (e : k = l) (h : a = b) :
    k + (1 - k) * Ideal.logistic a = l + (1 - l) * Ideal.div 1 (1 + Ideal.exp (-b)) := by
  subst e h; rfl

/-- The bound's row, as the host hands it to the kernel. -/
theorem bound (c : Dev nD) : V m c main_v0 = shapeCast S1x3072 (m ((c : Thread nD τ).loc main_arg3)) Cert.Kernel12Ideal.Gen.shapeCasts_S3072_S1x3072 := by
  unfold V
  simp only [hostOps0, List.flatten_cons, List.flatten_nil, List.append_nil, List.cons_append, List.nil_append, StableHlo.TRef.unary, cast_eq]
  after_results_simp <;> rfl

/-- What a point stores for the prompt is the reference at the block's place. -/
theorem pointP (c : Dev nD) (t : Fin cfg0.N) (y) : k0_pay2 (F := Ideal) (iblk m c 0 t) (cols (m ((c : Thread nD τ).loc main_arg2)) (t.val / 8)) (iblk m c 3 t) y
    = refP (m ((c : Thread nD τ).loc main_arg0)) (m ((c : Thread nD τ).loc main_arg2)) (m ((c : Thread nD τ).loc main_arg3)) (((cfg0.win 4).blk t).view.emb y) := by
  have hN : t.val < 48 := t.isLt
  pointwise [k0_pay2, refP, cols]
  refine fgate_congr ?_ ?_
  · first | (blk_point [iblk, idx t]; done) | (simp only [iblk]; rw [show V m c (Pipeline.arrRef (cfgs 0).spec 3) = _ from bound m c]; pointwise []; blk_point [V, idx t])
  · blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) (iblk m c 3 t) y
    = refS (m ((c : Thread nD τ).loc main_arg1)) (m ((c : Thread nD τ).loc main_arg2)) (m ((c : Thread nD τ).loc main_arg3)) (((cfg0.win 5).blk t).view.emb y) := by
  have hN : t.val < 48 := t.isLt
  pointwise [k0_pay3, refS, cols]
  refine fgate_congr ?_ ?_
  · first | (blk_point [iblk, idx t]; done) | (simp only [iblk]; rw [show V m c (Pipeline.arrRef (cfgs 0).spec 3) = _ from bound m c]; pointwise []; blk_point [V, idx t])
  · blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 4 (cfgs 0).N
    = refP (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 5 (cfgs 0).N
    = refS (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h1 : t.val % 8 = 7 := (flush0_5 t).mp hf
  have h0 : ¬t.val % 8 = 0 := by omega
  rw [after0_5, outsAt0_C m c t h0 h1, before m c t h0]; frame_out; rw [read_unread_whole]; exact pointS m c t y

/-- Kernel and reference leave the same two arrays. -/
theorem values : letI := Cert.Kernel12Ideal.Gen.facts; letI := Cert.Reference12Ideal.Gen.facts
    Cert.algebraic_Kernel12Ideal_Reference12Ideal := by
  intro m g m' g' hpre hargs
  refine ⟨_, _, (θ_run _ _ _).mono (fun r h c => h c) (Cert.Kernel12Ideal.Value.run_blocks m g), (θ_run _ _ _).mono (fun r h c => ?_) (Cert.Reference12Ideal.Value.run m' g')⟩
  obtain ⟨h0, h1, hk⟩ := h c
  obtain ⟨a0, a1, a2, a3⟩ := hargs c
  refine ⟨?_, ?_, hk⟩
  · rw [h0, a0, a2, a3]
    exact (finalP m c).symm
  · rw [h1, a1, a2, a3]
    exact (finalS m c).symm

/-- The reference runs to its end and leaves its arguments unchanged. -/
theorem reference_frame : letI := Cert.Reference12Ideal.Gen.facts; Cert.quiescent_Reference12Ideal := by
  intro m g _
  exact (θ_run _ _ _).mono (fun r h => ⟨fun c => (h c).2.2, sem_eq_zero_of_no_sems (by decide) r.2⟩) (Cert.Reference12Ideal.Value.run m g)

end Cert.Kernel12Ideal.MixForget

end
-- ==== Proof.MixValues.lean ====
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

/-! The first layer's values: each block is its rows times the columns of the weight that a scratch buffer carries along the rows. -/

noncomputable section

namespace Cert.Kernel13Ideal.MixValues

open Cert.Kernel13Ideal Cert.Kernel13Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x13312 .f32) : FVec Ideal S1x8192x3072 .f32 :=
  let z : FVec Ideal Cert.Reference13Ideal.S8192x13312 .f32 := Host.dotGeneral Cert.Reference13Ideal.dot_S8192x4096_S4096x13312_S8192x13312_1_0_0_1_n_n none
    (extf .f32 X Cert.Reference13Ideal.Gen.bitsLt_bf16_f32) (shapeCast _ W Cert.Reference13Ideal.Gen.shapeCasts_S1x4096x13312_S4096x13312)
  broadcastInDim S1x8192x3072 ![1, 2] Cert.Reference13Ideal.Gen.bcast_S8192x3072_S1x8192x3072_1_2
    (extractStridedSlice Cert.Reference13Ideal.S8192x3072 ![0, 6144] z Cert.Reference13Ideal.Gen.slices_S8192x13312_S8192x3072_0_6144)

/-- The same for the sample's tokens. -/
abbrev refS (X : FVec Ideal S64x4096 .bf16) (W : FVec Ideal S1x4096x13312 .f32) : FVec Ideal S1x64x3072 .f32 :=
  let z : FVec Ideal Cert.Reference13Ideal.S64x13312 .f32 := Host.dotGeneral Cert.Reference13Ideal.dot_S64x4096_S4096x13312_S64x13312_1_0_0_1_n_n none
    (extf .f32 X Cert.Reference13Ideal.Gen.bitsLt_bf16_f32) (shapeCast _ W Cert.Reference13Ideal.Gen.shapeCasts_S1x4096x13312_S4096x13312)
  broadcastInDim S1x64x3072 ![1, 2] Cert.Reference13Ideal.Gen.bcast_S64x3072_S1x64x3072_1_2
    (extractStridedSlice Cert.Reference13Ideal.S64x3072 ![0, 6144] z Cert.Reference13Ideal.Gen.slices_S64x13312_S64x3072_0_6144)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, 12 + t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x13312 .f32) (b : ℕ) : FVec Ideal S4096x512 .bf16 := fun y => W (ix3 0 (y 0) ⟨((12 + b) * 512 + (y 1).val) % 13312, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 48 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 48 := t.isLt
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 48 := t.isLt
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel13Ideal.Gen.facts; letI := Cert.Reference13Ideal.Gen.facts
    Cert.algebraic_Kernel13Ideal_Reference13Ideal := by
  intro m g m' g' hpre hargs
  refine ⟨_, _, (θ_run _ _ _).mono (fun r h c => h c) (Cert.Kernel13Ideal.Value.run_blocks m g), (θ_run _ _ _).mono (fun r h c => ?_) (Cert.Reference13Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference13Ideal.Gen.facts; Cert.quiescent_Reference13Ideal := by
  intro m g _
  exact (θ_run _ _ _).mono (fun r h => ⟨fun c => (h c).2.2, sem_eq_zero_of_no_sems (by decide) r.2⟩) (Cert.Reference13Ideal.Value.run m g)

end Cert.Kernel13Ideal.MixValues

end
-- ==== Proof.MixGate.lean ====
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack

@[expose] public section

set_option maxRecDepth 16384

/-! The first layer's output gate with its SiLU: each block is its rows times the columns of the weight that a scratch buffer carries along the rows. -/

noncomputable section

namespace Cert.Kernel14Ideal.MixGate

open Cert.Kernel14Ideal Cert.Kernel14Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x13312 .f32) : FVec Ideal S1x8192x3072 .f32 :=
  let z : FVec Ideal Cert.Reference14Ideal.S8192x13312 .f32 := Host.dotGeneral Cert.Reference14Ideal.dot_S8192x4096_S4096x13312_S8192x13312_1_0_0_1_n_n none
    (extf .f32 X Cert.Reference14Ideal.Gen.bitsLt_bf16_f32) (shapeCast _ W Cert.Reference14Ideal.Gen.shapeCasts_S1x4096x13312_S4096x13312)
  broadcastInDim S1x8192x3072 ![1, 2] Cert.Reference14Ideal.Gen.bcast_S8192x3072_S1x8192x3072_1_2
    (mulf (extractStridedSlice Cert.Reference14Ideal.S8192x3072 ![0, 9216] z Cert.Reference14Ideal.Gen.slices_S8192x13312_S8192x3072_0_9216)
      (Host.divf (broadcastInDim Cert.Reference14Ideal.S8192x3072 ![] Cert.Reference14Ideal.Gen.bcast_S_S8192x3072 (constant Cert.Reference14Ideal.S_ .f32 0x3F800000#32)) (addf (broadcastInDim Cert.Reference14Ideal.S8192x3072 ![] Cert.Reference14Ideal.Gen.bcast_S_S8192x3072 (constant Cert.Reference14Ideal.S_ .f32 0x3F800000#32)) (Host.exp (Host.negf (extractStridedSlice Cert.Reference14Ideal.S8192x3072 ![0, 9216] z Cert.Reference14Ideal.Gen.slices_S8192x13312_S8192x3072_0_9216))))))

/-- The same for the sample's tokens. -/
abbrev refS (X : FVec Ideal S64x4096 .bf16) (W : FVec Ideal S1x4096x13312 .f32) : FVec Ideal S1x64x3072 .f32 :=
  let z : FVec Ideal Cert.Reference14Ideal.S64x13312 .f32 := Host.dotGeneral Cert.Reference14Ideal.dot_S64x4096_S4096x13312_S64x13312_1_0_0_1_n_n none
    (extf .f32 X Cert.Reference14Ideal.Gen.bitsLt_bf16_f32) (shapeCast _ W Cert.Reference14Ideal.Gen.shapeCasts_S1x4096x13312_S4096x13312)
  broadcastInDim S1x64x3072 ![1, 2] Cert.Reference14Ideal.Gen.bcast_S64x3072_S1x64x3072_1_2
    (mulf (extractStridedSlice Cert.Reference14Ideal.S64x3072 ![0, 9216] z Cert.Reference14Ideal.Gen.slices_S64x13312_S64x3072_0_9216)
      (Host.divf (broadcastInDim Cert.Reference14Ideal.S64x3072 ![] Cert.Reference14Ideal.Gen.bcast_S_S64x3072 (constant Cert.Reference14Ideal.S_ .f32 0x3F800000#32)) (addf (broadcastInDim Cert.Reference14Ideal.S64x3072 ![] Cert.Reference14Ideal.Gen.bcast_S_S64x3072 (constant Cert.Reference14Ideal.S_ .f32 0x3F800000#32)) (Host.exp (Host.negf (extractStridedSlice Cert.Reference14Ideal.S64x3072 ![0, 9216] z Cert.Reference14Ideal.Gen.slices_S64x13312_S64x3072_0_9216))))))

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, 18 + t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x13312 .f32) (b : ℕ) : FVec Ideal S4096x512 .bf16 := fun y => W (ix3 0 (y 0) ⟨((18 + b) * 512 + (y 1).val) % 13312, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 48 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- The two SiLUs of equal numbers are equal. -/
theorem silu_congr {a b : EReal} (h : a = b) : a * Ideal.logistic a = b * Ideal.div 1 (1 + Ideal.exp (-b)) := by
  subst h; rfl

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 48 := t.isLt
  pointwise [k0_pay2, refP, cols]
  refine silu_congr ?_
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 48 := t.isLt
  pointwise [k0_pay3, refS, cols]
  refine silu_congr ?_
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel14Ideal.Gen.facts; letI := Cert.Reference14Ideal.Gen.facts
    Cert.algebraic_Kernel14Ideal_Reference14Ideal := by
  intro m g m' g' hpre hargs
  refine ⟨_, _, (θ_run _ _ _).mono (fun r h c => h c) (Cert.Kernel14Ideal.Value.run_blocks m g), (θ_run _ _ _).mono (fun r h c => ?_) (Cert.Reference14Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference14Ideal.Gen.facts; Cert.quiescent_Reference14Ideal := by
  intro m g _
  exact (θ_run _ _ _).mono (fun r h => ⟨fun c => (h c).2.2, sem_eq_zero_of_no_sems (by decide) r.2⟩) (Cert.Reference14Ideal.Value.run m g)

end Cert.Kernel14Ideal.MixGate

end
-- ==== Proof.MemQuery.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

@[expose] public section

set_option maxRecDepth 16384

/-! The first layer's memory query: each block is its rows times the columns of the weight that a scratch buffer carries along the rows. -/

noncomputable section

namespace Cert.Kernel15Ideal.MemQuery

open Cert.Kernel15Ideal Cert.Kernel15Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x13312 .f32) : FVec Ideal S1x8192x1024 .f32 :=
  let z : FVec Ideal Cert.Reference15Ideal.S8192x13312 .f32 := Host.dotGeneral Cert.Reference15Ideal.dot_S8192x4096_S4096x13312_S8192x13312_1_0_0_1_n_n none
    (extf .f32 X Cert.Reference15Ideal.Gen.bitsLt_bf16_f32) (shapeCast _ W Cert.Reference15Ideal.Gen.shapeCasts_S1x4096x13312_S4096x13312)
  broadcastInDim S1x8192x1024 ![1, 2] Cert.Reference15Ideal.Gen.bcast_S8192x1024_S1x8192x1024_1_2
    (extractStridedSlice Cert.Reference15Ideal.S8192x1024 ![0, 12288] z Cert.Reference15Ideal.Gen.slices_S8192x13312_S8192x1024_0_12288)

/-- The same for the sample's tokens. -/
abbrev refS (X : FVec Ideal S64x4096 .bf16) (W : FVec Ideal S1x4096x13312 .f32) : FVec Ideal S1x64x1024 .f32 :=
  let z : FVec Ideal Cert.Reference15Ideal.S64x13312 .f32 := Host.dotGeneral Cert.Reference15Ideal.dot_S64x4096_S4096x13312_S64x13312_1_0_0_1_n_n none
    (extf .f32 X Cert.Reference15Ideal.Gen.bitsLt_bf16_f32) (shapeCast _ W Cert.Reference15Ideal.Gen.shapeCasts_S1x4096x13312_S4096x13312)
  broadcastInDim S1x64x1024 ![1, 2] Cert.Reference15Ideal.Gen.bcast_S64x1024_S1x64x1024_1_2
    (extractStridedSlice Cert.Reference15Ideal.S64x1024 ![0, 12288] z Cert.Reference15Ideal.Gen.slices_S64x13312_S64x1024_0_12288)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, 24 + t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x13312 .f32) (b : ℕ) : FVec Ideal S4096x512 .bf16 := fun y => W (ix3 0 (y 0) ⟨((24 + b) * 512 + (y 1).val) % 13312, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 16 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 16 := t.isLt
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 16 := t.isLt
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel15Ideal.Gen.facts; letI := Cert.Reference15Ideal.Gen.facts
    Cert.algebraic_Kernel15Ideal_Reference15Ideal := by
  intro m g m' g' hpre hargs
  refine ⟨_, _, (θ_run _ _ _).mono (fun r h c => h c) (Cert.Kernel15Ideal.Value.run_blocks m g), (θ_run _ _ _).mono (fun r h c => ?_) (Cert.Reference15Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference15Ideal.Gen.facts; Cert.quiescent_Reference15Ideal := by
  intro m g _
  exact (θ_run _ _ _).mono (fun r h => ⟨fun c => (h c).2.2, sem_eq_zero_of_no_sems (by decide) r.2⟩) (Cert.Reference15Ideal.Value.run m g)

end Cert.Kernel15Ideal.MemQuery

end
-- ==== Proof.FoxQuery.lean ====
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack

@[expose] public section

set_option maxRecDepth 16384

/-! The second layer's query: each block is its rows times the columns of the weight that a scratch buffer carries along the rows. -/

noncomputable section

namespace Cert.Kernel16Ideal.FoxQuery

open Cert.Kernel16Ideal Cert.Kernel16Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x4096 .f32) : FVec Ideal S1x8192x3072 .f32 :=
  let z : FVec Ideal Cert.Reference16Ideal.S8192x4096 .f32 := Host.dotGeneral Cert.Reference16Ideal.dot_S8192x4096_S4096x4096_S8192x4096_1_0_0_1_n_n none
    (extf .f32 X Cert.Reference16Ideal.Gen.bitsLt_bf16_f32) (shapeCast _ W Cert.Reference16Ideal.Gen.shapeCasts_S1x4096x4096_S4096x4096)
  broadcastInDim S1x8192x3072 ![1, 2] Cert.Reference16Ideal.Gen.bcast_S8192x3072_S1x8192x3072_1_2
    (extractStridedSlice Cert.Reference16Ideal.S8192x3072 ![0, 0] z Cert.Reference16Ideal.Gen.slices_S8192x4096_S8192x3072_0_0)

/-- The same for the sample's tokens. -/
abbrev refS (X : FVec Ideal S64x4096 .bf16) (W : FVec Ideal S1x4096x4096 .f32) : FVec Ideal S1x64x3072 .f32 :=
  let z : FVec Ideal Cert.Reference16Ideal.S64x4096 .f32 := Host.dotGeneral Cert.Reference16Ideal.dot_S64x4096_S4096x4096_S64x4096_1_0_0_1_n_n none
    (extf .f32 X Cert.Reference16Ideal.Gen.bitsLt_bf16_f32) (shapeCast _ W Cert.Reference16Ideal.Gen.shapeCasts_S1x4096x4096_S4096x4096)
  broadcastInDim S1x64x3072 ![1, 2] Cert.Reference16Ideal.Gen.bcast_S64x3072_S1x64x3072_1_2
    (extractStridedSlice Cert.Reference16Ideal.S64x3072 ![0, 0] z Cert.Reference16Ideal.Gen.slices_S64x4096_S64x3072_0_0)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x4096 .f32) (b : ℕ) : FVec Ideal S4096x512 .bf16 := fun y => W (ix3 0 (y 0) ⟨(b * 512 + (y 1).val) % 4096, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 48 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 48 := t.isLt
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 48 := t.isLt
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel16Ideal.Gen.facts; letI := Cert.Reference16Ideal.Gen.facts
    Cert.algebraic_Kernel16Ideal_Reference16Ideal := by
  intro m g m' g' hpre hargs
  refine ⟨_, _, (θ_run _ _ _).mono (fun r h c => h c) (Cert.Kernel16Ideal.Value.run_blocks m g), (θ_run _ _ _).mono (fun r h c => ?_) (Cert.Reference16Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference16Ideal.Gen.facts; Cert.quiescent_Reference16Ideal := by
  intro m g _
  exact (θ_run _ _ _).mono (fun r h => ⟨fun c => (h c).2.2, sem_eq_zero_of_no_sems (by decide) r.2⟩) (Cert.Reference16Ideal.Value.run m g)

end Cert.Kernel16Ideal.FoxQuery

end
-- ==== Proof.FoxMemQuery.lean ====
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack

@[expose] public section

set_option maxRecDepth 16384

/-! The second layer's memory query: each block is its rows times the columns of the weight that a scratch buffer carries along the rows. -/

noncomputable section

namespace Cert.Kernel17Ideal.FoxMemQuery

open Cert.Kernel17Ideal Cert.Kernel17Ideal.Gen Idealize.ShloMosaic Idealize.ShloMosaic.TcCoe Idealize.SL.Sem
open Idealize.ShloMosaic.Pipeline (Dat)

/-- The reference's array for the prompt's tokens. -/
abbrev refP (X : FVec Ideal S8192x4096 .bf16) (W : FVec Ideal S1x4096x4096 .f32) : FVec Ideal S1x8192x1024 .f32 :=
  let z : FVec Ideal Cert.Reference17Ideal.S8192x4096 .f32 := Host.dotGeneral Cert.Reference17Ideal.dot_S8192x4096_S4096x4096_S8192x4096_1_0_0_1_n_n none
    (extf .f32 X Cert.Reference17Ideal.Gen.bitsLt_bf16_f32) (shapeCast _ W Cert.Reference17Ideal.Gen.shapeCasts_S1x4096x4096_S4096x4096)
  broadcastInDim S1x8192x1024 ![1, 2] Cert.Reference17Ideal.Gen.bcast_S8192x1024_S1x8192x1024_1_2
    (extractStridedSlice Cert.Reference17Ideal.S8192x1024 ![0, 3072] z Cert.Reference17Ideal.Gen.slices_S8192x4096_S8192x1024_0_3072)

/-- The same for the sample's tokens. -/
abbrev refS (X : FVec Ideal S64x4096 .bf16) (W : FVec Ideal S1x4096x4096 .f32) : FVec Ideal S1x64x1024 .f32 :=
  let z : FVec Ideal Cert.Reference17Ideal.S64x4096 .f32 := Host.dotGeneral Cert.Reference17Ideal.dot_S64x4096_S4096x4096_S64x4096_1_0_0_1_n_n none
    (extf .f32 X Cert.Reference17Ideal.Gen.bitsLt_bf16_f32) (shapeCast _ W Cert.Reference17Ideal.Gen.shapeCasts_S1x4096x4096_S4096x4096)
  broadcastInDim S1x64x1024 ![1, 2] Cert.Reference17Ideal.Gen.bcast_S64x1024_S1x64x1024_1_2
    (extractStridedSlice Cert.Reference17Ideal.S64x1024 ![0, 3072] z Cert.Reference17Ideal.Gen.slices_S64x4096_S64x1024_0_3072)

variable (m : (ℓ : Loc nD τ sig) → Buf (Elt Ideal) ℓ)

/-- Where every window's block sits at grid point `t`. -/
theorem idx : ∀ t : Fin cfg0.N, win0_0.index t = ![t.val % 8, 0] ∧ win0_1.index t = ![0, 0] ∧ win0_2.index t = ![0, 0, 6 + t.val / 8]
    ∧ win0_3.index t = ![0, t.val % 8, t.val / 8] ∧ win0_4.index t = ![0, 0, t.val / 8] :=
  (by decide +kernel : ∀ t : Fin grid0.N, _)

/-- The columns of the weight that column block `b` multiplies by, as the scratch buffer holds them. -/
def cols (W : FVec Ideal S1x4096x4096 .f32) (b : ℕ) : FVec Ideal S4096x512 .bf16 := fun y => W (ix3 0 (y 0) ⟨((6 + b) * 512 + (y 1).val) % 4096, Nat.mod_lt _ (by decide)⟩)

/-- The scratch buffer after the first point of a column block. -/
theorem first (c : Dev nD) (t : Fin cfg0.N) : k0_pay1 (F := Ideal) (iblk m c 2 t) = cols (m ((c : Thread nD τ).loc main_arg2)) (t.val / 8) := by
  have hN : t.val < 16 := t.isLt
  funext y
  pointwise [k0_pay1, cols]
  blk_point [iblk, V, idx t]

/-- The scratch buffer after every point. -/
theorem held (c : Dev nD) : ∀ (n : ℕ) (hn : n < cfg0.N), (outsAt0 m c n hn).2.2 = cols (m ((c : Thread nD τ).loc main_arg2)) (n / 8) := by
  intro n
  induction n with
  | zero => intro hn; rw [outsAt0_A m c ⟨0, hn⟩ (Nat.zero_mod 8) (by dsimp only; omega)]; dsimp only; frame_out; exact first m c ⟨0, hn⟩
  | succ n ih =>
    intro hn
    have hp := ih (Nat.lt_of_succ_lt hn)
    by_cases h0 : (n + 1) % 8 = 0
    · rw [outsAt0_A m c ⟨n + 1, hn⟩ h0 (by dsimp only; omega)]; dsimp only; frame_out; exact first m c ⟨n + 1, hn⟩
    · have e : (n + 1) / 8 = n / 8 := by omega
      by_cases h1 : (n + 1) % 8 = 7
      · rw [outsAt0_C m c ⟨n + 1, hn⟩ h0 h1, e]; dsimp only [sout0_C_0]; simp only [Nat.add_sub_cancel]; exact hp
      · rw [outsAt0_B m c ⟨n + 1, hn⟩ h0 h1, e]; dsimp only [sout0_B_0]; simp only [Nat.add_sub_cancel]; exact hp

/-- What a point stores for the prompt is the reference at the block's place. -/
theorem pointP (c : Dev nD) (t : Fin cfg0.N) (y) : k0_pay2 (F := Ideal) (iblk m c 0 t) (cols (m ((c : Thread nD τ).loc main_arg2)) (t.val / 8)) y
    = refP (m ((c : Thread nD τ).loc main_arg0)) (m ((c : Thread nD τ).loc main_arg2)) (((cfg0.win 3).blk t).view.emb y) := by
  have hN : t.val < 16 := t.isLt
  pointwise [k0_pay2, refP, cols]
  blk_point [iblk, V, idx t]

/-- What a last point of a column stores for the sample is the reference at the block's place. -/
theorem pointS (c : Dev nD) (t : Fin cfg0.N) (y) : k0_pay3 (F := Ideal) (iblk m c 1 t) (cols (m ((c : Thread nD τ).loc main_arg2)) (t.val / 8)) y
    = refS (m ((c : Thread nD τ).loc main_arg1)) (m ((c : Thread nD τ).loc main_arg2)) (((cfg0.win 4).blk t).view.emb y) := by
  have hN : t.val < 16 := t.isLt
  pointwise [k0_pay3, refS, cols]
  blk_point [iblk, V, idx t]

/-- The scratch buffer as a later point of a column block finds it. -/
theorem before (c : Dev nD) (t : Fin cfg0.N) (h : ¬t.val % 8 = 0) (hn : t.val - 1 < cfg0.N) :
    (outsAt0 m c (t.val - 1) hn).2.2 = cols (m ((c : Thread nD τ).loc main_arg2)) (t.val / 8) := by
  rw [held]; congr 1; omega

/-- The prompt's array after the run. -/
theorem finalP (c : Dev nD) : (dats m 0 c).arrAt 3 (cfgs 0).N
    = refP (m ((c : Thread nD τ).loc main_arg0)) (m ((c : Thread nD τ).loc main_arg2)) := by
  refine (dats m 0 c).arrAt_eq_of_covers 3 _ (by decide +kernel) fun t hf y => ?_
  blk_simp
  rw [after0_3]
  by_cases h0 : t.val % 8 = 0
  · rw [outsAt0_A m c t h0 (by omega)]; frame_out; rw [first]; exact pointP m c t y
  · by_cases h1 : t.val % 8 = 7
    · rw [outsAt0_C m c t h0 h1, before m c t h0]; frame_out; rw [read_unread_whole]; exact pointP m c t y
    · rw [outsAt0_B m c t h0 h1, before m c t h0]; frame_out; rw [read_unread_whole]; exact pointP m c t y

/-- The sample's array after the run. -/
theorem finalS (c : Dev nD) : (dats m 0 c).arrAt 4 (cfgs 0).N
    = refS (m ((c : Thread nD τ).loc main_arg1)) (m ((c : Thread nD τ).loc main_arg2)) := by
  refine (dats m 0 c).arrAt_eq_of_covers 4 _ (by decide +kernel) fun t hf y => ?_
  blk_simp
  have h1 : t.val % 8 = 7 := (flush0_4 t).mp hf
  have h0 : ¬t.val % 8 = 0 := by omega
  rw [after0_4, outsAt0_C m c t h0 h1, before m c t h0]; frame_out; rw [read_unread_whole]; exact pointS m c t y

/-- Kernel and reference leave the same two arrays. -/
theorem values : letI := Cert.Kernel17Ideal.Gen.facts; letI := Cert.Reference17Ideal.Gen.facts
    Cert.algebraic_Kernel17Ideal_Reference17Ideal := by
  intro m g m' g' hpre hargs
  refine ⟨_, _, (θ_run _ _ _).mono (fun r h c => h c) (Cert.Kernel17Ideal.Value.run_blocks m g), (θ_run _ _ _).mono (fun r h c => ?_) (Cert.Reference17Ideal.Value.run m' g')⟩
  obtain ⟨h0, h1, hk⟩ := h c
  obtain ⟨a0, a1, a2⟩ := hargs c
  refine ⟨?_, ?_, hk⟩
  · rw [h0, a0, a2]
    exact (finalP m c).symm
  · rw [h1, a1, a2]
    exact (finalS m c).symm

/-- The reference runs to its end and leaves its arguments unchanged. -/
theorem reference_frame : letI := Cert.Reference17Ideal.Gen.facts; Cert.quiescent_Reference17Ideal := by
  intro m g _
  exact (θ_run _ _ _).mono (fun r h => ⟨fun c => (h c).2.2, sem_eq_zero_of_no_sems (by decide) r.2⟩) (Cert.Reference17Ideal.Value.run m g)

end Cert.Kernel17Ideal.FoxMemQuery

end
-- ==== Proof.Out.lean ====
module

public import proofs.«01_k».proof.Defs
public import proofs.«01_k».proof.Proof.Gen.Kernel18Ideal.Value
public import proofs.«01_k».proof.Proof.Gen.Reference18Ideal.Run
public import Idealize.ShloMosaic.Lib.Pipeline.ValueKit

@[expose] public section

set_option maxRecDepth 16384

/-! The projection behind the two attentions: the product of the layer's outputs and of the memory's, laid side by side, is
the sum of the two products with the weight's two row blocks. -/

noncomputable section

namespace Cert.Kernel18Ideal.Out

open Cert.Kernel18Ideal Cert.Kernel18Ideal.Gen Idealize.ShloMosaic Idealize.ShloMosaic.TcCoe Idealize.SL.Sem
open Idealize.ShloMosaic.Pipeline (Dat)

/-- The reference's product, for the prompt's tokens. -/
abbrev refP (X : FVec Ideal S8192x3072 .bf16) (Y : FVec Ideal S8192x1024 .bf16) (W : FVec Ideal S1x4096x4096 .bf16) : FVec Ideal S1x8192x4096 .f32 :=
  let z : FVec Ideal Cert.Reference18Ideal.S8192x4096 .f32 := Host.dotGeneral Cert.Reference18Ideal.dot_S8192x4096_S4096x4096_S8192x4096_1_0_0_1_n_n none
    (concatenate Cert.Reference18Ideal.S8192x4096 1 [⟨S8192x3072, X⟩, ⟨S8192x1024, Y⟩] Cert.Reference18Ideal.Gen.concatenates_S8192x3072_S8192x1024_S8192x4096_d1)
    (shapeCast Cert.Reference18Ideal.S4096x4096 W Cert.Reference18Ideal.Gen.shapeCasts_S1x4096x4096_S4096x4096)
  broadcastInDim S1x8192x4096 ![1, 2] Cert.Reference18Ideal.Gen.bcast_S8192x4096_S1x8192x4096_1_2 z

/-- The same for the sample's tokens. -/
abbrev refS (X : FVec Ideal S64x3072 .bf16) (Y : FVec Ideal S64x1024 .bf16) (W : FVec Ideal S1x4096x4096 .bf16) : FVec Ideal S1x64x4096 .f32 :=
  let z : FVec Ideal Cert.Reference18Ideal.S64x4096 .f32 := Host.dotGeneral Cert.Reference18Ideal.dot_S64x4096_S4096x4096_S64x4096_1_0_0_1_n_n none
    (concatenate Cert.Reference18Ideal.S64x4096 1 [⟨S64x3072, X⟩, ⟨S64x1024, Y⟩] Cert.Reference18Ideal.Gen.concatenates_S64x3072_S64x1024_S64x4096_d1)
    (shapeCast Cert.Reference18Ideal.S4096x4096 W Cert.Reference18Ideal.Gen.shapeCasts_S1x4096x4096_S4096x4096)
  broadcastInDim S1x64x4096 ![1, 2] Cert.Reference18Ideal.Gen.bcast_S64x4096_S1x64x4096_1_2 z

variable (m : (ℓ : Loc nD τ sig) → Buf (Elt Ideal) ℓ)

/-- Where every window's block sits at grid point `t`. -/
theorem idx : ∀ t : Fin cfg0.N, win0_0.index t = ![t.val % 8, 0] ∧ win0_1.index t = ![t.val % 8, 0] ∧ win0_2.index t = ![0, 0] ∧ win0_3.index t = ![0, 0]
    ∧ win0_4.index t = ![0, 0, t.val / 8] ∧ win0_5.index t = ![0, t.val % 8, t.val / 8] ∧ win0_6.index t = ![0, 0, t.val / 8] :=
  (by decide +kernel : ∀ t : Fin grid0.N, _)

/-- What a point stores for the prompt is the reference at the block's place. -/
theorem pointP (c : Dev nD) (t : Fin cfg0.N) (y) : k0_pay1 (F := Ideal) (iblk m c 0 t) (View.ld (iblk m c 4 t) (Rect.unit ![0, 0, 0] ![1, 3072, 1024] inb_S1x4096x1024_S1x3072x1024_0_0_0))
      (iblk m c 1 t) (View.ld (iblk m c 4 t) (Rect.unit ![0, 3072, 0] ![1, 1024, 1024] inb_S1x4096x1024_S1x1024x1024_0_3072_0)) y
    = refP (m ((c : Thread nD τ).loc main_arg0)) (m ((c : Thread nD τ).loc main_arg1)) (m ((c : Thread nD τ).loc main_arg4)) (((cfg0.win 5).blk t).view.emb y) := by
  pointwise [k0_pay1, refP]
  blk_point [iblk, V, idx t]

/-- What a last point of a column stores for the sample is the reference at the block's place. -/
theorem pointS (c : Dev nD) (t : Fin cfg0.N) (y) : k0_pay2 (F := Ideal) (iblk m c 2 t) (View.ld (iblk m c 4 t) (Rect.unit ![0, 0, 0] ![1, 3072, 1024] inb_S1x4096x1024_S1x3072x1024_0_0_0))
      (iblk m c 3 t) (View.ld (iblk m c 4 t) (Rect.unit ![0, 3072, 0] ![1, 1024, 1024] inb_S1x4096x1024_S1x1024x1024_0_3072_0)) y
    = refS (m ((c : Thread nD τ).loc main_arg2)) (m ((c : Thread nD τ).loc main_arg3)) (m ((c : Thread nD τ).loc main_arg4)) (((cfg0.win 6).blk t).view.emb y) := by
  pointwise [k0_pay2, refS]
  blk_point [iblk, V, idx t]

/-- The prompt's array after the run. -/
theorem finalP (c : Dev nD) : (dats m 0 c).arrAt 5 (cfgs 0).N
    = refP (m ((c : Thread nD τ).loc main_arg0)) (m ((c : Thread nD τ).loc main_arg1)) (m ((c : Thread nD τ).loc main_arg4)) := by
  refine (dats m 0 c).arrAt_eq_of_covers 5 _ (by decide +kernel) fun t hf y => ?_
  blk_simp
  rw [after0_5]
  by_cases h : t.val % 8 = 7
  · rw [outsAt0_B m c t h]; frame_out; exact pointP m c t y
  · rw [outsAt0_A m c t h]; frame_out; exact pointP m c t y

/-- The sample's array after the run. -/
theorem finalS (c : Dev nD) : (dats m 0 c).arrAt 6 (cfgs 0).N
    = refS (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, outsAt0_B m c t ((flush0_6 t).mp hf)]; frame_out; exact pointS m c t y

/-- Kernel and reference leave the same two arrays. -/
theorem values : letI := Cert.Kernel18Ideal.Gen.facts; letI := Cert.Reference18Ideal.Gen.facts
    Cert.algebraic_Kernel18Ideal_Reference18Ideal := by
  intro m g m' g' hpre hargs
  refine ⟨_, _, (θ_run _ _ _).mono (fun r h c => h c) (Cert.Kernel18Ideal.Value.run_blocks m g), (θ_run _ _ _).mono (fun r h c => ?_) (Cert.Reference18Ideal.Value.run m' g')⟩
  obtain ⟨h0, h1, hk⟩ := h c
  obtain ⟨a0, a1, a2, a3, a4⟩ := hargs c
  refine ⟨?_, ?_, hk⟩
  · rw [h0, a0, a1, a4]
    exact (finalP m c).symm
  · rw [h1, a2, a3, a4]
    exact (finalS m c).symm

/-- The reference runs to its end and leaves its arguments unchanged. -/
theorem reference_frame : letI := Cert.Reference18Ideal.Gen.facts; Cert.quiescent_Reference18Ideal := by
  intro m g _
  exact (θ_run _ _ _).mono (fun r h => ⟨fun c => (h c).2.2, sem_eq_zero_of_no_sems (by decide) r.2⟩) (Cert.Reference18Ideal.Value.run m g)

end Cert.Kernel18Ideal.Out

end
-- ==== Proof.FirstNorm.lean ====
module

public import proofs.«01_k».proof.Defs
public import proofs.«01_k».proof.Proof.Gen.Kernel19Ideal.Value
public import proofs.«01_k».proof.Proof.Gen.Reference19Ideal.Run
public import Idealize.ShloMosaic.Lib.Pipeline.ValueKit

@[expose] public section

set_option maxRecDepth 16384

/-! The norm before a product, of the prompt's rows: block of rows by block of rows. -/

noncomputable section

namespace Cert.Kernel19Ideal.FirstNorm

open Cert.Kernel19Ideal Cert.Kernel19Ideal.Gen Idealize.ShloMosaic Idealize.ShloMosaic.TcCoe Idealize.SL.Sem
open Idealize.ShloMosaic.Pipeline (Dat)

/-- The rows of `X` over their root mean square, times the gain `G`. -/
abbrev rms (X : FVec Ideal S8192x4096 .f32) (G : FVec Ideal S4096 .f32) : FVec Ideal S8192x4096 .f32 :=
  let s : FVec Ideal Cert.Reference19Ideal.S8192 .f32 := Host.reduceAdd (mulf X X) (constant Cert.Reference19Ideal.S_ .f32 0x00000000#32) Cert.Reference19Ideal.Gen.reducesTo_S8192x4096_S8192_d1 Cert.Reference19Ideal.Gen.h_S_
  mulf (mulf X (broadcastInDim S8192x4096 ![0, 1] Cert.Reference19Ideal.Gen.bcast_S8192x1_S8192x4096_0_1 (Host.rsqrt (addf (Host.divf
      (broadcastInDim Cert.Reference19Ideal.S8192x1 ![0] Cert.Reference19Ideal.Gen.bcast_S8192_S8192x1_0 s)
      (broadcastInDim Cert.Reference19Ideal.S8192x1 ![] Cert.Reference19Ideal.Gen.bcast_S_S8192x1 (constant Cert.Reference19Ideal.S_ .f32 0x45800000#32)))
      (broadcastInDim Cert.Reference19Ideal.S8192x1 ![] Cert.Reference19Ideal.Gen.bcast_S_S8192x1 (constant Cert.Reference19Ideal.S_ .f32 0x358637BD#32))))))
    (broadcastInDim S8192x4096 ![0, 1] Cert.Reference19Ideal.Gen.bcast_S1x4096_S8192x4096_0_1 (broadcastInDim Cert.Reference19Ideal.S1x4096 ![1] Cert.Reference19Ideal.Gen.bcast_S4096_S1x4096_1 G))

/-- The reference's result. -/
abbrev ref (X : FVec Ideal S8192x4096 .f32) (G : FVec Ideal S4096 .f32) : FVec Ideal S8192x4096 .bf16 :=
  truncf .bf16 (rms X G) Cert.Reference19Ideal.Gen.bitsLt_bf16_f32

variable (m : (ℓ : Loc nD τ sig) → Buf (Elt Ideal) ℓ)

/-- Where every window's block sits at grid point `t`. -/
theorem idx : ∀ t : Fin cfg0.N, win0_0.index t = ![t.val, 0] ∧ win0_1.index t = ![0, 0] ∧ win0_2.index t = ![t.val, 0] :=
  (by decide +kernel : ∀ t : Fin grid0.N, _)

/-- What a point stores in output window 2 is the reference at the block's place. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref, rms]
  blk_point [iblk, V, idx t]

/-- Output window 2's array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]; frame_out; exact point m c t y

/-- Kernel and reference leave the same arrays. -/
theorem values : letI := Cert.Kernel19Ideal.Gen.facts; letI := Cert.Reference19Ideal.Gen.facts
    Cert.algebraic_Kernel19Ideal_Reference19Ideal := by
  intro m g m' g' hpre hargs
  refine ⟨_, (θ_run _ _ _).mono (fun r h c => h c) (Cert.Kernel19Ideal.Value.run_blocks m g), (θ_run _ _ _).mono (fun r h c => ?_) (Cert.Reference19Ideal.Value.run m' g')⟩
  obtain ⟨h0, hk⟩ := h c
  obtain ⟨a0, a1⟩ := hargs c
  refine ⟨?_, hk⟩
  · rw [h0, a0, a1]
    exact (final m c).symm

/-- The reference runs to its end and leaves its arguments unchanged. -/
theorem reference_frame : letI := Cert.Reference19Ideal.Gen.facts; Cert.quiescent_Reference19Ideal := by
  intro m g _
  exact (θ_run _ _ _).mono (fun r h => ⟨fun c => (h c).2, sem_eq_zero_of_no_sems (by decide) r.2⟩) (Cert.Reference19Ideal.Value.run m g)

end Cert.Kernel19Ideal.FirstNorm

end
-- ==== Proof.StepNorm.lean ====
module

public import proofs.«01_k».proof.Defs
public import proofs.«01_k».proof.Proof.Gen.Kernel20Ideal.Value
public import proofs.«01_k».proof.Proof.Gen.Reference20Ideal.Run
public import Idealize.ShloMosaic.Lib.Pipeline.ValueKit

@[expose] public section

set_option maxRecDepth 16384

/-! The residual step of the prompt's rows with the norm that follows it. -/

noncomputable section

namespace Cert.Kernel20Ideal.StepNorm

open Cert.Kernel20Ideal Cert.Kernel20Ideal.Gen Idealize.ShloMosaic Idealize.ShloMosaic.TcCoe Idealize.SL.Sem
open Idealize.ShloMosaic.Pipeline (Dat)

/-- The rows of `X` over their root mean square, times the gain `G`. -/
abbrev rms (X : FVec Ideal S8192x4096 .f32) (G : FVec Ideal S4096 .f32) : FVec Ideal S8192x4096 .f32 :=
  let s : FVec Ideal Cert.Reference20Ideal.S8192 .f32 := Host.reduceAdd (mulf X X) (constant Cert.Reference20Ideal.S_ .f32 0x00000000#32) Cert.Reference20Ideal.Gen.reducesTo_S8192x4096_S8192_d1 Cert.Reference20Ideal.Gen.h_S_
  mulf (mulf X (broadcastInDim S8192x4096 ![0, 1] Cert.Reference20Ideal.Gen.bcast_S8192x1_S8192x4096_0_1 (Host.rsqrt (addf (Host.divf
      (broadcastInDim Cert.Reference20Ideal.S8192x1 ![0] Cert.Reference20Ideal.Gen.bcast_S8192_S8192x1_0 s)
      (broadcastInDim Cert.Reference20Ideal.S8192x1 ![] Cert.Reference20Ideal.Gen.bcast_S_S8192x1 (constant Cert.Reference20Ideal.S_ .f32 0x45800000#32)))
      (broadcastInDim Cert.Reference20Ideal.S8192x1 ![] Cert.Reference20Ideal.Gen.bcast_S_S8192x1 (constant Cert.Reference20Ideal.S_ .f32 0x358637BD#32))))))
    (broadcastInDim S8192x4096 ![0, 1] Cert.Reference20Ideal.Gen.bcast_S1x4096_S8192x4096_0_1 (broadcastInDim Cert.Reference20Ideal.S1x4096 ![1] Cert.Reference20Ideal.Gen.bcast_S4096_S1x4096_1 G))

/-- The reference's stream after the step. -/
abbrev step (X H : FVec Ideal S8192x4096 .f32) (G : FVec Ideal S4096 .f32) : FVec Ideal S8192x4096 .f32 :=
  addf H (rms X G)

/-- The reference's norm of the stream after the step. -/
abbrev next (X H : FVec Ideal S8192x4096 .f32) (G N : FVec Ideal S4096 .f32) : FVec Ideal S8192x4096 .bf16 :=
  truncf .bf16 (rms (step X H G) N) Cert.Reference20Ideal.Gen.bitsLt_bf16_f32

variable (m : (ℓ : Loc nD τ sig) → Buf (Elt Ideal) ℓ)

/-- Where every window's block sits at grid point `t`. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- What a point stores in output window 4 is the reference at the block's place. -/
theorem point (c : Dev nD) (t : Fin cfg0.N) (y) : k0_pay1 (F := Ideal) (iblk m c 0 t) (iblk m c 1 t) (iblk m c 2 t) y
    = step (m ((c : Thread nD τ).loc main_arg0)) (m ((c : Thread nD τ).loc main_arg1)) (m ((c : Thread nD τ).loc main_arg2)) (((cfg0.win 4).blk t).view.emb y) := by
  pointwise [k0_pay1, step, rms]
  blk_point [iblk, V, idx t]

/-- Output window 4's array after the run. -/
theorem final (c : Dev nD) : (dats m 0 c).arrAt 4 (cfgs 0).N
    = step (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out; exact point m c t y

set_option maxHeartbeats 1600000 in
/-- What a point stores in output window 5 is the reference at the block's place. -/
theorem pointN (c : Dev nD) (t : Fin cfg0.N) (y) : k0_pay2 (F := Ideal) (iblk m c 0 t) (iblk m c 1 t) (iblk m c 2 t) (iblk m c 3 t) y
    = next (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, next, step, rms]
  blk_point [iblk, V, idx t]

/-- Output window 5's array after the run. -/
theorem finalN (c : Dev nD) : (dats m 0 c).arrAt 5 (cfgs 0).N
    = next (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out; exact pointN m c t y

/-- Kernel and reference leave the same arrays. -/
theorem values : letI := Cert.Kernel20Ideal.Gen.facts; letI := Cert.Reference20Ideal.Gen.facts
    Cert.algebraic_Kernel20Ideal_Reference20Ideal := by
  intro m g m' g' hpre hargs
  refine ⟨_, _, (θ_run _ _ _).mono (fun r h c => h c) (Cert.Kernel20Ideal.Value.run_blocks m g), (θ_run _ _ _).mono (fun r h c => ?_) (Cert.Reference20Ideal.Value.run m' g')⟩
  obtain ⟨h0, h1, hk⟩ := h c
  obtain ⟨a0, a1, a2, a3⟩ := hargs c
  refine ⟨?_, ?_, hk⟩
  · rw [h0, a0, a1, a2]
    exact (final m c).symm
  · rw [h1, a0, a1, a2, a3]
    exact (finalN m c).symm

/-- The reference runs to its end and leaves its arguments unchanged. -/
theorem reference_frame : letI := Cert.Reference20Ideal.Gen.facts; Cert.quiescent_Reference20Ideal := by
  intro m g _
  exact (θ_run _ _ _).mono (fun r h => ⟨fun c => (h c).2.2, sem_eq_zero_of_no_sems (by decide) r.2⟩) (Cert.Reference20Ideal.Value.run m g)

end Cert.Kernel20Ideal.StepNorm

end
-- ==== Proof.StepNorms.lean ====
module

public import proofs.«01_k».proof.Defs
public import proofs.«01_k».proof.Proof.Gen.Kernel21Ideal.Value
public import proofs.«01_k».proof.Proof.Gen.Reference21Ideal.Run
public import Idealize.ShloMosaic.Lib.Pipeline.ValueKit

@[expose] public section

set_option maxRecDepth 16384

/-! The residual step of the prompt's rows with the two norms that follow it. -/

noncomputable section

namespace Cert.Kernel21Ideal.StepNorms

open Cert.Kernel21Ideal Cert.Kernel21Ideal.Gen Idealize.ShloMosaic Idealize.ShloMosaic.TcCoe Idealize.SL.Sem
open Idealize.ShloMosaic.Pipeline (Dat)

/-- The rows of `X` over their root mean square, times the gain `G`. -/
abbrev rms (X : FVec Ideal S8192x4096 .f32) (G : FVec Ideal S4096 .f32) : FVec Ideal S8192x4096 .f32 :=
  let s : FVec Ideal Cert.Reference21Ideal.S8192 .f32 := Host.reduceAdd (mulf X X) (constant Cert.Reference21Ideal.S_ .f32 0x00000000#32) Cert.Reference21Ideal.Gen.reducesTo_S8192x4096_S8192_d1 Cert.Reference21Ideal.Gen.h_S_
  mulf (mulf X (broadcastInDim S8192x4096 ![0, 1] Cert.Reference21Ideal.Gen.bcast_S8192x1_S8192x4096_0_1 (Host.rsqrt (addf (Host.divf
      (broadcastInDim Cert.Reference21Ideal.S8192x1 ![0] Cert.Reference21Ideal.Gen.bcast_S8192_S8192x1_0 s)
      (broadcastInDim Cert.Reference21Ideal.S8192x1 ![] Cert.Reference21Ideal.Gen.bcast_S_S8192x1 (constant Cert.Reference21Ideal.S_ .f32 0x45800000#32)))
      (broadcastInDim Cert.Reference21Ideal.S8192x1 ![] Cert.Reference21Ideal.Gen.bcast_S_S8192x1 (constant Cert.Reference21Ideal.S_ .f32 0x358637BD#32))))))
    (broadcastInDim S8192x4096 ![0, 1] Cert.Reference21Ideal.Gen.bcast_S1x4096_S8192x4096_0_1 (broadcastInDim Cert.Reference21Ideal.S1x4096 ![1] Cert.Reference21Ideal.Gen.bcast_S4096_S1x4096_1 G))

/-- The reference's stream after the step. -/
abbrev step (X H : FVec Ideal S8192x4096 .f32) (G : FVec Ideal S4096 .f32) : FVec Ideal S8192x4096 .f32 :=
  addf H (rms X G)

/-- The reference's norm of the stream after the step. -/
abbrev next (X H : FVec Ideal S8192x4096 .f32) (G N : FVec Ideal S4096 .f32) : FVec Ideal S8192x4096 .bf16 :=
  truncf .bf16 (rms (step X H G) N) Cert.Reference21Ideal.Gen.bitsLt_bf16_f32

variable (m : (ℓ : Loc nD τ sig) → Buf (Elt Ideal) ℓ)

/-- Where every window's block sits at grid point `t`. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- What a point stores in output window 5 is the reference at the block's place. -/
theorem point (c : Dev nD) (t : Fin cfg0.N) (y) : k0_pay2 (F := Ideal) (iblk m c 0 t) (iblk m c 1 t) (iblk m c 2 t) y
    = step (m ((c : Thread nD τ).loc main_arg0)) (m ((c : Thread nD τ).loc main_arg1)) (m ((c : Thread nD τ).loc main_arg2)) (((cfg0.win 5).blk t).view.emb y) := by
  pointwise [k0_pay2, step, rms]
  blk_point [iblk, V, idx t]

/-- Output window 5's array after the run. -/
theorem final (c : Dev nD) : (dats m 0 c).arrAt 5 (cfgs 0).N
    = step (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out; exact point m c t y

/-- What a point stores in output window 6 is the reference at the block's place. -/
theorem pointN (c : Dev nD) (t : Fin cfg0.N) (y) : k0_pay4 (F := Ideal) (iblk m c 0 t) (iblk m c 1 t) (iblk m c 2 t) (iblk m c 3 t) y
    = next (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay4, k0_pay3, k0_pay2, k0_pay5, next, step, rms]
  blk_point [iblk, V, idx t]

/-- Output window 6's array after the run. -/
theorem finalN (c : Dev nD) : (dats m 0 c).arrAt 6 (cfgs 0).N
    = next (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; frame_out; exact pointN m c t y

/-- What a point stores in output window 7 is the reference at the block's place. -/
theorem pointM (c : Dev nD) (t : Fin cfg0.N) (y) : k0_pay1 (F := Ideal) (k0_pay3 (iblk m c 0 t) (iblk m c 1 t) (iblk m c 2 t)) (k0_pay5 (iblk m c 4 t)) y
    = next (m ((c : Thread nD τ).loc main_arg0)) (m ((c : Thread nD τ).loc main_arg1)) (m ((c : Thread nD τ).loc main_arg2)) (m ((c : Thread nD τ).loc main_arg4)) (((cfg0.win 7).blk t).view.emb y) := by
  pointwise [k0_pay1, k0_pay2, k0_pay3, k0_pay5, next, step, rms]
  blk_point [iblk, V, idx t]

/-- Output window 7's array after the run. -/
theorem finalM (c : Dev nD) : (dats m 0 c).arrAt 7 (cfgs 0).N
    = next (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]; frame_out; exact pointM m c t y

/-- Kernel and reference leave the same arrays. -/
theorem values : letI := Cert.Kernel21Ideal.Gen.facts; letI := Cert.Reference21Ideal.Gen.facts
    Cert.algebraic_Kernel21Ideal_Reference21Ideal := by
  intro m g m' g' hpre hargs
  refine ⟨_, _, _, (θ_run _ _ _).mono (fun r h c => h c) (Cert.Kernel21Ideal.Value.run_blocks m g), (θ_run _ _ _).mono (fun r h c => ?_) (Cert.Reference21Ideal.Value.run m' g')⟩
  obtain ⟨h0, h1, h2, hk⟩ := h c
  obtain ⟨a0, a1, a2, a3, a4⟩ := hargs c
  refine ⟨?_, ?_, ?_, hk⟩
  · rw [h0, a0, a1, a2]
    exact (final m c).symm
  · rw [h1, a0, a1, a2, a3]
    exact (finalN m c).symm
  · rw [h2, a0, a1, a2, a4]
    exact (finalM m c).symm

/-- The reference runs to its end and leaves its arguments unchanged. -/
theorem reference_frame : letI := Cert.Reference21Ideal.Gen.facts; Cert.quiescent_Reference21Ideal := by
  intro m g _
  exact (θ_run _ _ _).mono (fun r h => ⟨fun c => (h c).2.2.2, sem_eq_zero_of_no_sems (by decide) r.2⟩) (Cert.Reference21Ideal.Value.run m g)

end Cert.Kernel21Ideal.StepNorms

end
-- ==== Proof.MemAttention.lean ====
module

public import proofs.«01_k».proof.Defs
public import proofs.«01_k».proof.Proof.Gen.Kernel22Ideal.Value
public import proofs.«01_k».proof.Proof.Gen.Reference22Ideal.Run
public import Idealize.ShloMosaic.Lib.Pipeline.ValueKit

@[expose] public section

set_option maxRecDepth 16384

/-! The memory attention of the prompt's tokens: the softmax of every head's scores over the 256 memory slots, times the memory's values. -/

noncomputable section

namespace Cert.Kernel22Ideal.MemAttention

open Cert.Kernel22Ideal Cert.Kernel22Ideal.Gen Idealize.ShloMosaic Idealize.ShloMosaic.TcCoe Idealize.SL.Sem
open Idealize.ShloMosaic.Pipeline (Dat)

/-- The softmax of the scores `s` over the memory slots, times one lane `v` of the values. -/
def att (s v : Fin 256 → EReal) : EReal :=
  ∑ k : Fin 256, Ideal.div (Ideal.exp (s k - Finset.univ.fold max (Ideal.ofBits .f32 0xFF800000#32) s))
    (∑ l : Fin 256, Ideal.exp (s l - Finset.univ.fold max (Ideal.ofBits .f32 0xFF800000#32) s)) * v k

/-- The reference's scores. -/
def scores (X : FVec Ideal S4x2048x1024 .f32) (K : FVec Ideal S2x4x256x1024 .f32) : FVec Ideal Cert.Reference22Ideal.S4x4x2048x256 .f32 :=
  mulf (Host.dotGeneral Cert.Reference22Ideal.dot_S4x2048x4x256_S4x256x4x256_S4x4x2048x256_3_3_1_1_02_02 none (shapeCast _ X Cert.Reference22Ideal.Gen.shapeCasts_S4x2048x1024_S4x2048x4x256) (shapeCast Cert.Reference22Ideal.S4x256x4x256 (shapeCast _ (extractStridedSlice Cert.Reference22Ideal.S1x4x256x1024 ![0, 0, 0, 0] K Cert.Reference22Ideal.Gen.slices_S2x4x256x1024_S1x4x256x1024_0_0_0_0) Cert.Reference22Ideal.Gen.shapeCasts_S1x4x256x1024_S4x256x1024) Cert.Reference22Ideal.Gen.shapeCasts_S4x256x1024_S4x256x4x256)) (broadcastInDim Cert.Reference22Ideal.S4x4x2048x256 ![] Cert.Reference22Ideal.Gen.bcast_S_S4x4x2048x256 (constant Cert.Reference22Ideal.S_ .f32 0x3D800000#32))

/-- A maximum from its own start is unchanged by another maximum with the start. -/
theorem max_fold (b : EReal) (f : Fin 256 → EReal) : max b (Finset.univ.fold max b f) = Finset.univ.fold max b f :=
  max_eq_right (Finset.le_fold_max b |>.2 (.inl le_rfl))

/-- The greatest of `S` over the slots, from `B`. -/
def topOf (S : FVec Ideal Cert.Reference22Ideal.S4x4x2048x256 .f32) (B : FVec Ideal Cert.Reference22Ideal.S_ .f32) : FVec Ideal Cert.Reference22Ideal.S4x4x2048 .f32 :=
  maximumf (broadcastInDim Cert.Reference22Ideal.S4x4x2048 ![] Cert.Reference22Ideal.Gen.bcast_S_S4x4x2048 B) (Host.reduce FloatOps.maximumf S B Cert.Reference22Ideal.Gen.reducesTo_S4x4x2048x256_S4x4x2048_d3 Cert.Reference22Ideal.Gen.h_S_)

/-- The maximum with the start, at an index. -/
theorem start_max (M : FVec Ideal Cert.Reference22Ideal.S4x4x2048 .f32) (B : FVec Ideal Cert.Reference22Ideal.S_ .f32) (u : EReal) (hB : ∀ i, B i = u) (j : Cert.Reference22Ideal.S4x4x2048.Idx) :
    maximumf (broadcastInDim Cert.Reference22Ideal.S4x4x2048 ![] Cert.Reference22Ideal.Gen.bcast_S_S4x4x2048 B) M j = (fun a b : EReal => max a b) u (M j) := by
  pointwise
  rw [hB]

/-- The reference's maximum over the slots, at an index. -/
theorem fold_at (S : FVec Ideal Cert.Reference22Ideal.S4x4x2048x256 .f32) (B : FVec Ideal Cert.Reference22Ideal.S_ .f32) (u : EReal) (hB : ∀ i, B i = u) (b : Fin 4) (h : Fin 4) (t : Fin 2048) (f : Fin 256 → EReal) (hf : ∀ k, f k = S (ix4 b h t k)) :
    Host.reduce FloatOps.maximumf S B Cert.Reference22Ideal.Gen.reducesTo_S4x4x2048x256_S4x4x2048_d3 Cert.Reference22Ideal.Gen.h_S_ (ix3 b h t) = Finset.univ.fold max u f := by
  obtain rfl : f = fun k => S (ix4 b h t k) := funext hf
  pointwise
  rw [hB]

/-- The greatest of `S` at an index. -/
theorem topOf_at (S : FVec Ideal Cert.Reference22Ideal.S4x4x2048x256 .f32) (B : FVec Ideal Cert.Reference22Ideal.S_ .f32) (u : EReal) (hB : ∀ i, B i = u) (b : Fin 4) (h : Fin 4) (t : Fin 2048) (f : Fin 256 → EReal) (hf : ∀ k, f k = S (ix4 b h t k)) :
    topOf S B (ix3 b h t) = Finset.univ.fold max u f :=
  (start_max _ B u hB _).trans ((congrArg (fun z : EReal => max u z) (fold_at S B u hB b h t f hf)).trans (max_fold u f))

/-- The exponentials of the scores less `M`. -/
def expo (S : FVec Ideal Cert.Reference22Ideal.S4x4x2048x256 .f32) (M : FVec Ideal Cert.Reference22Ideal.S4x4x2048 .f32) : FVec Ideal Cert.Reference22Ideal.S4x4x2048x256 .f32 :=
  Host.exp (subf S (broadcastInDim Cert.Reference22Ideal.S4x4x2048x256 ![0, 1, 2, 3] Cert.Reference22Ideal.Gen.bcast_S4x4x2048x1_S4x4x2048x256_0_1_2_3 (broadcastInDim Cert.Reference22Ideal.S4x4x2048x1 ![0, 1, 2] Cert.Reference22Ideal.Gen.bcast_S4x4x2048_S4x4x2048x1_0_1_2 M)))

/-- The exponentials `E` over their sums. -/
def share (E : FVec Ideal Cert.Reference22Ideal.S4x4x2048x256 .f32) : FVec Ideal Cert.Reference22Ideal.S4x4x2048x256 .f32 :=
  let z : FVec Ideal Cert.Reference22Ideal.S4x4x2048 .f32 := Host.reduceAdd E (constant Cert.Reference22Ideal.S_ .f32 0x00000000#32) Cert.Reference22Ideal.Gen.reducesTo_S4x4x2048x256_S4x4x2048_d3 Cert.Reference22Ideal.Gen.h_S_
  Host.divf E (broadcastInDim Cert.Reference22Ideal.S4x4x2048x256 ![0, 1, 2, 3] Cert.Reference22Ideal.Gen.bcast_S4x4x2048x1_S4x4x2048x256_0_1_2_3 (broadcastInDim Cert.Reference22Ideal.S4x4x2048x1 ![0, 1, 2] Cert.Reference22Ideal.Gen.bcast_S4x4x2048_S4x4x2048x1_0_1_2 z))

/-- The values mixed by the weights `P`. -/
def mixed (P : FVec Ideal Cert.Reference22Ideal.S4x4x2048x256 .f32) (V : FVec Ideal S2x4x256x1024 .f32) : FVec Ideal S4x2048x1024 .bf16 :=
  let o : FVec Ideal Cert.Reference22Ideal.S4x4x256x2048 .f32 := Host.dotGeneral Cert.Reference22Ideal.dot_S4x256x4x256_S4x4x2048x256_S4x4x256x2048_1_3_3_2_02_01 none (shapeCast Cert.Reference22Ideal.S4x256x4x256 (shapeCast _ (extractStridedSlice Cert.Reference22Ideal.S1x4x256x1024 ![0, 0, 0, 0] V Cert.Reference22Ideal.Gen.slices_S2x4x256x1024_S1x4x256x1024_0_0_0_0) Cert.Reference22Ideal.Gen.shapeCasts_S1x4x256x1024_S4x256x1024) Cert.Reference22Ideal.Gen.shapeCasts_S4x256x1024_S4x256x4x256) P
  truncf .bf16 (shapeCast S4x2048x1024 (transpose Cert.Reference22Ideal.S4x2048x4x256 [0, 3, 1, 2] o Cert.Reference22Ideal.Gen.transposes_S4x4x256x2048_S4x2048x4x256_0_3_1_2) Cert.Reference22Ideal.Gen.shapeCasts_S4x2048x4x256_S4x2048x1024) Cert.Reference22Ideal.Gen.bitsLt_bf16_f32

/-- The reference's result. -/
def ref (X : FVec Ideal S4x2048x1024 .f32) (K V : FVec Ideal S2x4x256x1024 .f32) : FVec Ideal S4x2048x1024 .bf16 :=
  mixed (share (expo (scores X K) (topOf (scores X K) (constant Cert.Reference22Ideal.S_ .f32 0xFF800000#32)))) V

/-- The reference's scores at an index. -/
theorem scores_at (X : FVec Ideal S4x2048x1024 .f32) (K : FVec Ideal S2x4x256x1024 .f32) (b : Fin 4) (h : Fin 4) (t : Fin 2048) (k : Fin 256) :
    scores X K (ix4 b h t k) = (∑ e : Fin 256, X (ix3 b t ⟨h.val * 256 + e.val, by omega⟩) * K (ix4 0 b k ⟨h.val * 256 + e.val, by omega⟩)) * Ideal.ofBits .f32 0x3D800000#32 := by
  pointwise [scores]

/-- The exponentials at an index. -/
theorem expo_at (S : FVec Ideal Cert.Reference22Ideal.S4x4x2048x256 .f32) (M : FVec Ideal Cert.Reference22Ideal.S4x4x2048 .f32) (b : Fin 4) (h : Fin 4) (t : Fin 2048) (k : Fin 256) :
    expo S M (ix4 b h t k) = Ideal.exp (S (ix4 b h t k) - M (ix3 b h t)) := by
  pointwise [expo]

/-- The weights at an index. -/
theorem share_at (E : FVec Ideal Cert.Reference22Ideal.S4x4x2048x256 .f32) (b : Fin 4) (h : Fin 4) (t : Fin 2048) (k : Fin 256) :
    share E (ix4 b h t k) = Ideal.div (E (ix4 b h t k)) (∑ l : Fin 256, E (ix4 b h t l)) := by
  pointwise [share]

/-- The mixed values at an index. -/
theorem mixed_at (P : FVec Ideal Cert.Reference22Ideal.S4x4x2048x256 .f32) (V : FVec Ideal S2x4x256x1024 .f32) (b : Fin 4) (t : Fin 2048) (l : Fin 1024) :
    mixed P V (ix3 b t l) = ∑ k : Fin 256, V (ix4 0 b k l) * P (ix4 b ⟨l.val / 256, by omega⟩ t k) := by
  pointwise [mixed]

/-- The greatest score at an index, from the reference's start. -/
theorem top_at (S : FVec Ideal Cert.Reference22Ideal.S4x4x2048x256 .f32) (b : Fin 4) (h : Fin 4) (t : Fin 2048) (f : Fin 256 → EReal) (hf : ∀ k, f k = S (ix4 b h t k)) :
    topOf S (constant Cert.Reference22Ideal.S_ .f32 0xFF800000#32) (ix3 b h t) = Finset.univ.fold max (Ideal.ofBits .f32 0xFF800000#32) f :=
  topOf_at S _ (Ideal.ofBits .f32 0xFF800000#32) (fun i => by pointwise) b h t f hf

/-- The exponentials of a row of scores `f`, at an index. -/
theorem expo_top (S : FVec Ideal Cert.Reference22Ideal.S4x4x2048x256 .f32) (b : Fin 4) (h : Fin 4) (t : Fin 2048) (f : Fin 256 → EReal) (hf : ∀ k, f k = S (ix4 b h t k)) (j : Fin 256) :
    expo S (topOf S (constant Cert.Reference22Ideal.S_ .f32 0xFF800000#32)) (ix4 b h t j) = Ideal.exp (f j - Finset.univ.fold max (Ideal.ofBits .f32 0xFF800000#32) f) := by
  rw [expo_at, top_at S b h t f hf, ← hf j]

/-- The weights of a row of scores `f`, at an index. -/
theorem share_top (S : FVec Ideal Cert.Reference22Ideal.S4x4x2048x256 .f32) (b : Fin 4) (h : Fin 4) (t : Fin 2048) (f : Fin 256 → EReal) (hf : ∀ k, f k = S (ix4 b h t k)) (k : Fin 256) :
    share (expo S (topOf S (constant Cert.Reference22Ideal.S_ .f32 0xFF800000#32))) (ix4 b h t k)
      = Ideal.div (Ideal.exp (f k - Finset.univ.fold max (Ideal.ofBits .f32 0xFF800000#32) f)) (∑ l : Fin 256, Ideal.exp (f l - Finset.univ.fold max (Ideal.ofBits .f32 0xFF800000#32) f)) := by
  rw [share_at, expo_top S b h t f hf]
  exact congrArg (Ideal.div _) (Finset.sum_congr rfl fun l _ => expo_top S b h t f hf l)

/-- The reference's result from a row of scores `f`, at an index. -/
theorem mixed_top (S : FVec Ideal Cert.Reference22Ideal.S4x4x2048x256 .f32) (V : FVec Ideal S2x4x256x1024 .f32) (b : Fin 4) (t : Fin 2048) (l : Fin 1024) (f : Fin 256 → EReal) (hf : ∀ k, f k = S (ix4 b ⟨l.val / 256, by omega⟩ t k)) :
    mixed (share (expo S (topOf S (constant Cert.Reference22Ideal.S_ .f32 0xFF800000#32)))) V (ix3 b t l) = att f (fun k => V (ix4 0 b k l)) := by
  rw [mixed_at]
  unfold att
  refine Finset.sum_congr rfl fun k _ => ?_
  rw [share_top S b _ t f hf k]
  exact mul_comm _ _

/-- The reference's result at an index. -/
theorem ref_at (X : FVec Ideal S4x2048x1024 .f32) (K V : FVec Ideal S2x4x256x1024 .f32) (b : Fin 4) (t : Fin 2048) (l : Fin 1024) :
    ref X K V (ix3 b t l) = att (fun k => (∑ e : Fin 256, X (ix3 b t ⟨l.val / 256 * 256 + e.val, by omega⟩) * K (ix4 0 b k ⟨l.val / 256 * 256 + e.val, by omega⟩)) * Ideal.ofBits .f32 0x3D800000#32)
      (fun k => V (ix4 0 b k l)) :=
  mixed_top (scores X K) V b t l _ fun k => (scores_at X K b ⟨l.val / 256, by omega⟩ t k).symm

/-- The same at any index. -/
theorem ref_idx (X : FVec Ideal S4x2048x1024 .f32) (K V : FVec Ideal S2x4x256x1024 .f32) (i : S4x2048x1024.Idx) :
    ref X K V i = att (fun k => (∑ e : Fin 256, X (ix3 (i 0) (i 1) ⟨(i 2).val / 256 * 256 + e.val, by have h : (i 2).val < 1024 := (i 2).isLt; omega⟩)
        * K (ix4 0 (i 0) k ⟨(i 2).val / 256 * 256 + e.val, by have h : (i 2).val < 1024 := (i 2).isLt; omega⟩)) * Ideal.ofBits .f32 0x3D800000#32)
      (fun k => V (ix4 0 (i 0) k (i 2))) :=
  (congrArg (ref X K V) (eq_ix3 i)).trans (ref_at X K V (i 0) (i 1) (i 2))

/-- One head of a point's block. -/
theorem head (x : Vec Ideal S1x512x256 .f32) (k v : Vec Ideal S1x1x256x256 .f32) (y : S1x512x256.Idx) :
    k0_pay11 (k0_pay9 (k0_pay3 x k)) v y = att (fun j => (∑ e : Fin 256, x (ix3 0 (y 1) e) * k (ix4 0 0 j e)) * Ideal.ofBits .f32 0x3D800000#32) (fun j => v (ix4 0 0 j (y 2))) := by
  unfold att
  pointwise [k0_pay11, k0_pay9, k0_pay3]

variable (m : (ℓ : Loc nD τ sig) → Buf (Elt Ideal) ℓ)

/-- Where every window's block sits at grid point `t`. -/
theorem idx : ∀ t : Fin cfg0.N, win0_0.index t = ![t.val / 4, t.val % 4, 0] ∧ win0_1.index t = ![0, t.val / 4, 0, 0] ∧ win0_2.index t = ![0, t.val / 4, 0, 0] ∧ win0_3.index t = ![t.val / 4, t.val % 4, 0] :=
  (by decide +kernel : ∀ t : Fin grid0.N, _)

/-- What a point stores is the reference at the block's place. -/
theorem point (c : Dev nD) (t : Fin cfg0.N) (y : S1x512x1024.Idx) : out0_3 (F := Ideal) (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  refine Eq.trans ?_ (ref_idx _ _ _ _).symm
  canon_tiles x h
  all_goals refine (head _ _ _ x).trans ?_
  all_goals refine congrArg₂ att (funext fun j => congrArg (fun z : EReal => z * Ideal.ofBits .f32 0x3D800000#32)
    (Finset.sum_congr rfl fun e _ => congrArg₂ (fun a b : EReal => a * b) ?_ ?_)) (funext fun j => ?_)
  all_goals pointwise
  all_goals blk_point [iblk, V, idx t]

/-- The array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; exact point m c t y

/-- Kernel and reference leave the same array. -/
theorem values : letI := Cert.Kernel22Ideal.Gen.facts; letI := Cert.Reference22Ideal.Gen.facts
    Cert.algebraic_Kernel22Ideal_Reference22Ideal := by
  intro m g m' g' hpre hargs
  refine ⟨_, (θ_run _ _ _).mono (fun r h c => h c) (Cert.Kernel22Ideal.Value.run_blocks m g), (θ_run _ _ _).mono (fun r h c => ?_) (Cert.Reference22Ideal.Value.run m' g')⟩
  obtain ⟨h0, hk⟩ := h c
  obtain ⟨a0, a1, a2⟩ := hargs c
  refine ⟨?_, hk⟩
  rw [h0, a0, a1, a2]
  exact (final m c).symm

/-- The reference runs to its end and leaves its arguments unchanged. -/
theorem reference_frame : letI := Cert.Reference22Ideal.Gen.facts; Cert.quiescent_Reference22Ideal := by
  intro m g _
  exact (θ_run _ _ _).mono (fun r h => ⟨fun c => (h c).2, sem_eq_zero_of_no_sems (by decide) r.2⟩) (Cert.Reference22Ideal.Value.run m g)

end Cert.Kernel22Ideal.MemAttention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_gates_finite
public import proofs.«01_k».proof.Proof.Equation
public import proofs.«01_k».proof.Proof.Finite
public import Idealize.ShloMosaic.Adequacy
public import Idealize.ShloMosaic.Init
public import proofs.«01_k».proof.Proof.Gen.Kernel2.Frame
public import proofs.«01_k».proof.Proof.Up
public import proofs.«01_k».proof.Proof.DownBits
public import proofs.«01_k».proof.Proof.Down
public import proofs.«01_k».proof.Proof.Gen.Kernel4.Frame
public import proofs.«01_k».proof.Proof.Keys
public import proofs.«01_k».proof.Proof.Gen.Kernel5.Frame
public import proofs.«01_k».proof.Proof.Values
public import proofs.«01_k».proof.Proof.Gen.Kernel6.Frame
public import proofs.«01_k».proof.Proof.LogForget
public import proofs.«01_k».proof.Proof.Gen.Kernel7.Frame
public import proofs.«01_k».proof.Proof.MemKeys
public import proofs.«01_k».proof.Proof.Gen.Kernel8.Frame
public import proofs.«01_k».proof.Proof.MemValues
public import proofs.«01_k».proof.Proof.Gen.Kernel9.Frame
public import proofs.«01_k».proof.Proof.StepPrompt
public import proofs.«01_k».proof.Proof.Gen.Kernel10.Frame
public import proofs.«01_k».proof.Proof.StepSample
public import proofs.«01_k».proof.Proof.Gen.Kernel11.Frame
public import proofs.«01_k».proof.Proof.MixQuery
public import proofs.«01_k».proof.Proof.Gen.Kernel12.Frame
public import proofs.«01_k».proof.Proof.MixForget
public import proofs.«01_k».proof.Proof.Gen.Kernel13.Frame
public import proofs.«01_k».proof.Proof.MixValues
public import proofs.«01_k».proof.Proof.Gen.Kernel14.Frame
public import proofs.«01_k».proof.Proof.MixGate
public import proofs.«01_k».proof.Proof.Gen.Kernel15.Frame
public import proofs.«01_k».proof.Proof.MemQuery
public import proofs.«01_k».proof.Proof.Gen.Kernel16.Frame
public import proofs.«01_k».proof.Proof.FoxQuery
public import proofs.«01_k».proof.Proof.Gen.Kernel17.Frame
public import proofs.«01_k».proof.Proof.FoxMemQuery
public import proofs.«01_k».proof.Proof.Gen.Kernel18.Frame
public import proofs.«01_k».proof.Proof.Out
public import proofs.«01_k».proof.Proof.Gen.Kernel19.Frame
public import proofs.«01_k».proof.Proof.FirstNorm
public import proofs.«01_k».proof.Proof.Gen.Kernel20.Frame
public import proofs.«01_k».proof.Proof.StepNorm
public import proofs.«01_k».proof.Proof.Gen.Kernel21.Frame
public import proofs.«01_k».proof.Proof.StepNorms
public import proofs.«01_k».proof.Proof.Gen.Kernel22.Frame
public import proofs.«01_k».proof.Proof.MemAttention

@[expose] public section

noncomputable section

namespace Cert.Proof

open Idealize.ShloMosaic Idealize.SL.Sem Cert.Kernel

/-- The kernel and the reference leave the same two arrays: the mixer's output and the new state. -/
theorem values : letI := Cert.KernelIdeal.Gen.facts; letI := Cert.ReferenceIdeal.Gen.facts; letI := Cert.Pre_gates_finite.Gen.facts
    Cert.algebraic_KernelIdeal_ReferenceIdeal_pre_gates_finite := by
  intro m g m' g' hpre hargs
  refine ⟨_, _, (θ_run _ _ _).mono (fun r h c => h c) (Cert.KernelIdeal.Value.run_blocks m g), (θ_run _ _ _).mono (fun r h c => ?_) (Cert.ReferenceIdeal.Math.run_named m' g')⟩
  obtain ⟨h0, h1, hk⟩ := h c
  obtain ⟨a0, a1, a2, a3, a4, a5⟩ := hargs c
  obtain ⟨hq, hf, hv, hs⟩ := Cert.Pre_gates_finite.reals _ _ _ _ _ _ (congrFun (hpre c) _)
  refine ⟨?_, ?_, hk⟩
  · rw [h0, a0, a1, a2, a3, a4, a5]
    exact (Cert.Equation.mixer_eq _ _ _ _ _ _ hq hf hv hs).trans (Cert.KernelIdeal.Arrays.final_mixer m c).symm
  · rw [h1, a1, a2, a5]
    exact (Cert.Equation.state_eq _ _ _ hf hv hs).trans (Cert.KernelIdeal.Arrays.final_state m c).symm

/-- The reference runs to its end and leaves its arguments unchanged. -/
theorem reference_frame : letI := Cert.ReferenceIdeal.Gen.facts; Cert.quiescent_ReferenceIdeal := by
  intro m g _
  exact (θ_run _ _ _).mono (fun r h => ⟨fun c => (h c).2.2, sem_eq_zero_of_no_sems (by decide) r.2⟩) (Cert.ReferenceIdeal.Math.run_named m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_gates_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Kernel2Ideal.Up.reference_frame,
  fun m ρ _ => Cert.Kernel3.Down.frame m ρ, fun m ρ _ => Cert.Kernel3Ideal.Down.frame m ρ, Cert.Kernel3Ideal.Down.reference_frame,
  fun m ρ _ => Cert.Kernel4.Gen.frame m ρ, fun m ρ _ => Cert.Kernel4Ideal.Gen.frame m ρ, Cert.Kernel4Ideal.Keys.reference_frame,
  fun m ρ _ => Cert.Kernel5.Gen.frame m ρ, fun m ρ _ => Cert.Kernel5Ideal.Gen.frame m ρ, Cert.Kernel5Ideal.Values.reference_frame,
  fun m ρ _ => Cert.Kernel6.Gen.frame m ρ, fun m ρ _ => Cert.Kernel6Ideal.Gen.frame m ρ, Cert.Kernel6Ideal.LogForget.reference_frame,
  fun m ρ _ => Cert.Kernel7.Gen.frame m ρ, fun m ρ _ => Cert.Kernel7Ideal.Gen.frame m ρ, Cert.Kernel7Ideal.MemKeys.reference_frame,
  fun m ρ _ => Cert.Kernel8.Gen.frame m ρ, fun m ρ _ => Cert.Kernel8Ideal.Gen.frame m ρ, Cert.Kernel8Ideal.MemValues.reference_frame,
  fun m ρ _ => Cert.Kernel9.Gen.frame m ρ, fun m ρ _ => Cert.Kernel9Ideal.Gen.frame m ρ, Cert.Kernel9Ideal.StepPrompt.reference_frame,
  fun m ρ _ => Cert.Kernel10.Gen.frame m ρ, fun m ρ _ => Cert.Kernel10Ideal.Gen.frame m ρ, Cert.Kernel10Ideal.StepSample.reference_frame,
  fun m ρ _ => Cert.Kernel11.Gen.frame m ρ, fun m ρ _ => Cert.Kernel11Ideal.Gen.frame m ρ, Cert.Kernel11Ideal.MixQuery.reference_frame,
  fun m ρ _ => Cert.Kernel12.Gen.frame m ρ, fun m ρ _ => Cert.Kernel12Ideal.Gen.frame m ρ, Cert.Kernel12Ideal.MixForget.reference_frame,
  fun m ρ _ => Cert.Kernel13.Gen.frame m ρ, fun m ρ _ => Cert.Kernel13Ideal.Gen.frame m ρ, Cert.Kernel13Ideal.MixValues.reference_frame,
  fun m ρ _ => Cert.Kernel14.Gen.frame m ρ, fun m ρ _ => Cert.Kernel14Ideal.Gen.frame m ρ, Cert.Kernel14Ideal.MixGate.reference_frame,
  fun m ρ _ => Cert.Kernel15.Gen.frame m ρ, fun m ρ _ => Cert.Kernel15Ideal.Gen.frame m ρ, Cert.Kernel15Ideal.MemQuery.reference_frame,
  fun m ρ _ => Cert.Kernel16.Gen.frame m ρ, fun m ρ _ => Cert.Kernel16Ideal.Gen.frame m ρ, Cert.Kernel16Ideal.FoxQuery.reference_frame,
  fun m ρ _ => Cert.Kernel17.Gen.frame m ρ, fun m ρ _ => Cert.Kernel17Ideal.Gen.frame m ρ, Cert.Kernel17Ideal.FoxMemQuery.reference_frame,
  fun m ρ _ => Cert.Kernel18.Gen.frame m ρ, fun m ρ _ => Cert.Kernel18Ideal.Gen.frame m ρ, Cert.Kernel18Ideal.Out.reference_frame,
  fun m ρ _ => Cert.Kernel19.Gen.frame m ρ, fun m ρ _ => Cert.Kernel19Ideal.Gen.frame m ρ, Cert.Kernel19Ideal.FirstNorm.reference_frame,
  fun m ρ _ => Cert.Kernel20.Gen.frame m ρ, fun m ρ _ => Cert.Kernel20Ideal.Gen.frame m ρ, Cert.Kernel20Ideal.StepNorm.reference_frame,
  fun m ρ _ => Cert.Kernel21.Gen.frame m ρ, fun m ρ _ => Cert.Kernel21Ideal.Gen.frame m ρ, Cert.Kernel21Ideal.StepNorms.reference_frame,
  fun m ρ _ => Cert.Kernel22.Gen.frame m ρ, fun m ρ _ => Cert.Kernel22Ideal.Gen.frame m ρ, Cert.Kernel22Ideal.MemAttention.reference_frame,
  trivial, values,
  trivial, Cert.Kernel2Ideal.Up.values,
  trivial, Cert.Kernel3Ideal.Down.values,
  trivial, Cert.Kernel4Ideal.Keys.values,
  trivial, Cert.Kernel5Ideal.Values.values,
  trivial, Cert.Kernel6Ideal.LogForget.values,
  trivial, Cert.Kernel7Ideal.MemKeys.values,
  trivial, Cert.Kernel8Ideal.MemValues.values,
  trivial, Cert.Kernel9Ideal.StepPrompt.values,
  trivial, Cert.Kernel10Ideal.StepSample.values,
  trivial, Cert.Kernel11Ideal.MixQuery.values,
  trivial, Cert.Kernel12Ideal.MixForget.values,
  trivial, Cert.Kernel13Ideal.MixValues.values,
  trivial, Cert.Kernel14Ideal.MixGate.values,
  trivial, Cert.Kernel15Ideal.MemQuery.values,
  trivial, Cert.Kernel16Ideal.FoxQuery.values,
  trivial, Cert.Kernel17Ideal.FoxMemQuery.values,
  trivial, Cert.Kernel18Ideal.Out.values,
  trivial, Cert.Kernel19Ideal.FirstNorm.values,
  trivial, Cert.Kernel20Ideal.StepNorm.values,
  trivial, Cert.Kernel21Ideal.StepNorms.values,
  trivial, Cert.Kernel22Ideal.MemAttention.values⟩

end Cert.Proof

end
